-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : IVec S_ 32) (main_arg2 : IVec S_ 32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_c_0 : IVec S_ 32 := constantI S_ 32 0#32
  let main_v4 : IVec S_ 1 := cmpi .ne main_arg1 main_c_0
  let main_v5 : IVec S_ 1 := andi main_v3 main_v4
  main_v5
-- ==== Kernel.lean ====
abbrev S128x100000 : Shape := ⟨2, ![128, 100000]⟩
abbrev S_ : Shape := ⟨0, ![]⟩
abbrev S100000x128 : Shape := ⟨2, ![100000, 128]⟩
abbrev S1 : Shape := ⟨1, ![1]⟩
abbrev S2x2000x128 : Shape := ⟨3, ![2, 2000, 128]⟩
abbrev S8x128 : Shape := ⟨2, ![8, 128]⟩
abbrev S2x128 : Shape := ⟨2, ![2, 128]⟩
abbrev S2 : Shape := ⟨1, ![2]⟩
abbrev S1x2000x128 : Shape := ⟨3, ![1, 2000, 128]⟩
abbrev S2000x128 : Shape := ⟨2, ![2000, 128]⟩
abbrev S128 : Shape := ⟨1, ![128]⟩
abbrev S1x128 : Shape := ⟨2, ![1, 128]⟩
abbrev S400x128 : Shape := ⟨2, ![400, 128]⟩
abbrev S1x400x128 : Shape := ⟨3, ![1, 400, 128]⟩
abbrev S50x8x128 : Shape := ⟨3, ![50, 8, 128]⟩
abbrev S1x8x128 : Shape := ⟨3, ![1, 8, 128]⟩

abbrev nBuf : Space → Nat
  | .hbm => 7
  | .vmem => 5
  | .smem => 1
  | _ => 0

abbrev bufTy : (tb : Table) → Fin (tcTables nBuf tb) → BufTy
  | .hbm, ⟨0, _⟩ => ⟨S128x100000, .f32⟩
  | .hbm, ⟨1, _⟩ => ⟨S_, .i32⟩
  | .hbm, ⟨2, _⟩ => ⟨S_, .i32⟩
  | .hbm, ⟨3, _⟩ => ⟨S100000x128, .f32⟩
  | .hbm, ⟨4, _⟩ => ⟨S1, .i32⟩
  | .hbm, ⟨5, _⟩ => ⟨S100000x128, .f32⟩
  | .hbm, ⟨6, _⟩ => ⟨S128x100000, .f32⟩
  | .local _ .vmem, ⟨0, _⟩ => ⟨S2x2000x128, .f32⟩
  | .local _ .vmem, ⟨1, _⟩ => ⟨S2x2000x128, .f32⟩
  | .local _ .vmem, ⟨2, _⟩ => ⟨S8x128, .f32⟩
  | .local _ .vmem, ⟨3, _⟩ => ⟨S8x128, .f32⟩
  | .local _ .vmem, ⟨4, _⟩ => ⟨S2x128, .f32⟩
  | .local _ .smem, ⟨0, _⟩ => ⟨S1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_2 : BitVec 32 := 0#32
  let v11 : BitVec 1 := Scalar.cmpi .ne v10 c0_i32_2
  v11

def k0_off1 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off2 (i : grid0.Coords) : Fin 3 → Nat :=
  let arg0 : BitVec 32 := BitVec.ofNat 32 (i 0).val
  let c2_i32 : BitVec 32 := 2#32
  let v3 : BitVec 32 := Scalar.remsi arg0 c2_i32
  let c0_i32_21 : BitVec 32 := 0#32
  let c0_i32_22 : BitVec 32 := 0#32
  ![v3.toNat, 0, 0]
def k0_cond2 (i : grid0.Coords) : BitVec 1 :=
  let arg0 : BitVec 32 := BitVec.ofNat 32 (i 0).val
  let c1_i32_3 : BitVec 32 := 1#32
  let v12 : BitVec 32 := Scalar.addi arg0 c1_i32_3
  let c50_i32_4 : BitVec 32 := 50#32
  let v13 : BitVec 1 := Scalar.cmpi .slt v12 c50_i32_4
  let v14 : BitVec 32 := Scalar.extui v13
  let c0_i32_5 : BitVec 32 := 0#32
  let v15 : BitVec 1 := Scalar.cmpi .ne v14 c0_i32_5
  v15

def k0_off3 (i : grid0.Coords) : Fin 1 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  ![v5.toNat]
def k0_off4 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let c0_i32_22 : BitVec 32 := 0#32
  let c0_i32_23 : BitVec 32 := 0#32
  ![v5.toNat, 0, 0]
def k0_off5 (i : grid0.Coords) : Fin 2 → Nat :=
  let arg0 : BitVec 32 := BitVec.ofNat 32 (i 0).val
  let c1_i32_3 : BitVec 32 := 1#32
  let v12 : BitVec 32 := Scalar.addi arg0 c1_i32_3
  let c2000_i32_21 : BitVec 32 := 2000#32
  let v46 : BitVec 32 := Scalar.muli v12 c2000_i32_21
  let c0_i32_24 : BitVec 32 := 0#32
  ![v46.toNat, 0]
def k0_cond3 (i : grid0.Coords) : BitVec 1 :=
  let arg0 : BitVec 32 := BitVec.ofNat 32 (i 0).val
  let c1_i32_3 : BitVec 32 := 1#32
  let v12 : BitVec 32 := Scalar.addi arg0 c1_i32_3
  let c50_i32_6 : BitVec 32 := 50#32
  let v16 : BitVec 1 := Scalar.cmpi .sge v12 c50_i32_6
  let c100_i32 : BitVec 32 := 100#32
  let v17 : BitVec 1 := Scalar.cmpi .slt v12 c100_i32
  let v18 : BitVec 1 := Scalar.andi v16 v17
  let v19 : BitVec 32 := Scalar.extui v18
  let c0_i32_7 : BitVec 32 := 0#32
  let v20 : BitVec 1 := Scalar.cmpi .ne v19 c0_i32_7
  v20

def k0_off6 (i : grid0.Coords) : Fin 1 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  ![v5.toNat]
def k0_off7 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let c0_i32_23 : BitVec 32 := 0#32
  let c0_i32_24 : BitVec 32 := 0#32
  ![v5.toNat, 0, 0]
def k0_off8 (i : grid0.Coords) : Fin 2 → Nat :=
  let arg0 : BitVec 32 := BitVec.ofNat 32 (i 0).val
  let c1_i32_3 : BitVec 32 := 1#32
  let v12 : BitVec 32 := Scalar.addi arg0 c1_i32_3
  let c50_i32_21 : BitVec 32 := 50#32
  let v46 : BitVec 32 := Scalar.subi v12 c50_i32_21
  let c2000_i32_22 : BitVec 32 := 2000#32
  let v47 : BitVec 32 := Scalar.muli v46 c2000_i32_22
  let c0_i32_25 : BitVec 32 := 0#32
  ![v47.toNat, 0]
def k0_cond4 (i : grid0.Coords) : BitVec 1 :=
  let arg0 : BitVec 32 := BitVec.ofNat 32 (i 0).val
  let c50_i32 : BitVec 32 := 50#32
  let v0 : BitVec 1 := Scalar.cmpi .sge arg0 c50_i32
  let v_true : BitVec 1 := 1#1
  let v21 : BitVec 1 := Scalar.xori v0 v_true
  let v22 : BitVec 32 := Scalar.extui v21
  let c0_i32_8 : BitVec 32 := 0#32
  let v23 : BitVec 1 := Scalar.cmpi .ne v22 c0_i32_8
  v23

def k0_off9 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off10 (i : grid0.Coords) : Fin 3 → Nat :=
  let arg0 : BitVec 32 := BitVec.ofNat 32 (i 0).val
  let c2_i32 : BitVec 32 := 2#32
  let v3 : BitVec 32 := Scalar.remsi arg0 c2_i32
  let c0_i32_22 : BitVec 32 := 0#32
  let c0_i32_23 : BitVec 32 := 0#32
  ![v3.toNat, 0, 0]
def k0_off11 (i : grid0.Coords) : Fin 2 → Nat :=
  let arg0 : BitVec 32 := BitVec.ofNat 32 (i 0).val
  let c50_i32 : BitVec 32 := 50#32
  let v0 : BitVec 1 := Scalar.cmpi .sge arg0 c50_i32
  let c50_i32_0 : BitVec 32 := 50#32
  let v1 : BitVec 32 := Scalar.subi arg0 c50_i32_0
  let v2 : BitVec 32 := Scalar.select v0 v1 arg0
  let c2000_i32_21 : BitVec 32 := 2000#32
  let v46 : BitVec 32 := Scalar.muli v2 c2000_i32_21
  let c0_i32_24 : BitVec 32 := 0#32
  ![v46.toNat, 0]
def k0_cond5 (i : grid0.Coords) : BitVec 1 :=
  let arg0 : BitVec 32 := BitVec.ofNat 32 (i 0).val
  let c50_i32 : BitVec 32 := 50#32
  let v0 : BitVec 1 := Scalar.cmpi .sge arg0 c50_i32
  let v24 : BitVec 32 := Scalar.extui v0
  let c0_i32_9 : BitVec 32 := 0#32
  let v25 : BitVec 1 := Scalar.cmpi .ne v24 c0_i32_9
  v25

def k0_off12 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off13 (i : grid0.Coords) : Fin 3 → Nat :=
  let arg0 : BitVec 32 := BitVec.ofNat 32 (i 0).val
  let c2_i32 : BitVec 32 := 2#32
  let v3 : BitVec 32 := Scalar.remsi arg0 c2_i32
  let c0_i32_22 : BitVec 32 := 0#32
  let c0_i32_23 : BitVec 32 := 0#32
  ![v3.toNat, 0, 0]
def k0_off14 (i : grid0.Coords) : Fin 2 → Nat :=
  let arg0 : BitVec 32 := BitVec.ofNat 32 (i 0).val
  let c50_i32 : BitVec 32 := 50#32
  let v0 : BitVec 1 := Scalar.cmpi .sge arg0 c50_i32
  let c50_i32_0 : BitVec 32 := 50#32
  let v1 : BitVec 32 := Scalar.subi arg0 c50_i32_0
  let v2 : BitVec 32 := Scalar.select v0 v1 arg0
  let c2000_i32_21 : BitVec 32 := 2000#32
  let v46 : BitVec 32 := Scalar.muli v2 c2000_i32_21
  let c0_i32_24 : BitVec 32 := 0#32
  ![v46.toNat, 0]
def k0_cond6 (i : grid0.Coords) : BitVec 1 :=
  let arg0 : BitVec 32 := BitVec.ofNat 32 (i 0).val
  let c2_i32_10 : BitVec 32 := 2#32
  let v26 : BitVec 1 := Scalar.cmpi .sge arg0 c2_i32_10
  let v27 : BitVec 32 := Scalar.extui v26
  let c0_i32_11 : BitVec 32 := 0#32
  let v28 : BitVec 1 := Scalar.cmpi .ne v27 c0_i32_11
  v28

def k0_off15 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off16 (i : grid0.Coords) : Fin 2 → Nat :=
  let arg0 : BitVec 32 := BitVec.ofNat 32 (i 0).val
  let c2_i32_21 : BitVec 32 := 2#32
  let v46 : BitVec 32 := Scalar.subi arg0 c2_i32_21
  let c50_i32_22 : BitVec 32 := 50#32
  let v47 : BitVec 1 := Scalar.cmpi .sge v46 c50_i32_22
  let c2_i32_23 : BitVec 32 := 2#32
  let v48 : BitVec 32 := Scalar.subi arg0 c2_i32_23
  let c50_i32_24 : BitVec 32 := 50#32
  let v49 : BitVec 32 := Scalar.subi v48 c50_i32_24
  let c2_i32_25 : BitVec 32 := 2#32
  let v50 : BitVec 32 := Scalar.subi arg0 c2_i32_25
  let v51 : BitVec 32 := Scalar.select v47 v49 v50
  let c2000_i32_26 : BitVec 32 := 2000#32
  let v52 : BitVec 32 := Scalar.muli v51 c2000_i32_26
  let c0_i32_27 : BitVec 32 := 0#32
  ![v52.toNat, 0]
def k0_off17 (i : grid0.Coords) : Fin 3 → Nat :=
  let arg0 : BitVec 32 := BitVec.ofNat 32 (i 0).val
  let c2_i32 : BitVec 32 := 2#32
  let v3 : BitVec 32 := Scalar.remsi arg0 c2_i32
  let c0_i32_28 : BitVec 32 := 0#32
  let c0_i32_29 : BitVec 32 := 0#32
  ![v3.toNat, 0, 0]
def k0_cond8 (i : grid0.Coords) : BitVec 1 :=
  let arg0 : BitVec 32 := BitVec.ofNat 32 (i 0).val
  let c50_i32 : BitVec 32 := 50#32
  let v0 : BitVec 1 := Scalar.cmpi .sge arg0 c50_i32
  let true_14 : BitVec 1 := 1#1
  let v32 : BitVec 1 := Scalar.xori v0 true_14
  let v33 : BitVec 32 := Scalar.extui v32
  let c0_i32_15 : BitVec 32 := 0#32
  let v34 : BitVec 1 := Scalar.cmpi .ne v33 c0_i32_15
  v34

def k0_off18 (i : grid0.Coords) : Fin 3 → Nat :=
  let arg0 : BitVec 32 := BitVec.ofNat 32 (i 0).val
  let c2_i32 : BitVec 32 := 2#32
  let v3 : BitVec 32 := Scalar.remsi arg0 c2_i32
  let v55 : Index := Scalar.indexCast v3
  let c0_23 : Index := 0#32
  let c0_24 : Index := 0#32
  ![v55.toNat, 0, 0]
def k0_off19 (i : grid0.Coords) : Fin 3 → Nat :=
  let arg0 : BitVec 32 := BitVec.ofNat 32 (i 0).val
  let c2_i32 : BitVec 32 := 2#32
  let v3 : BitVec 32 := Scalar.remsi arg0 c2_i32
  let v280 : Index := Scalar.indexCast v3
  let c400 : Index := 400#32
  let c0_85 : Index := 0#32
  ![v280.toNat, 400, 0]
def k0_off20 (i : grid0.Coords) : Fin 3 → Nat :=
  let arg0 : BitVec 32 := BitVec.ofNat 32 (i 0).val
  let c2_i32 : BitVec 32 := 2#32
  let v3 : BitVec 32 := Scalar.remsi arg0 c2_i32
  let v505 : Index := Scalar.indexCast v3
  let c800 : Index := 800#32
  let c0_162 : Index := 0#32
  ![v505.toNat, 800, 0]
def k0_off21 (i : grid0.Coords) : Fin 3 → Nat :=
  let arg0 : BitVec 32 := BitVec.ofNat 32 (i 0).val
  let c2_i32 : BitVec 32 := 2#32
  let v3 : BitVec 32 := Scalar.remsi arg0 c2_i32
  let v730 : Index := Scalar.indexCast v3
  let c1200 : Index := 1200#32
  let c0_239 : Index := 0#32
  ![v730.toNat, 1200, 0]
def k0_off22 (i : grid0.Coords) : Fin 3 → Nat :=
  let arg0 : BitVec 32 := BitVec.ofNat 32 (i 0).val
  let c2_i32 : BitVec 32 := 2#32
  let v3 : BitVec 32 := Scalar.remsi arg0 c2_i32
  let v955 : Index := Scalar.indexCast v3
  let c1600 : Index := 1600#32
  let c0_316 : Index := 0#32
  ![v955.toNat, 1600, 0]
def k0_cond9 (i : grid0.Coords) : BitVec 1 :=
  let arg0 : BitVec 32 := BitVec.ofNat 32 (i 0).val
  let c50_i32 : BitVec 32 := 50#32
  let v0 : BitVec 1 := Scalar.cmpi .sge arg0 c50_i32
  let v35 : BitVec 32 := Scalar.extui v0
  let c0_i32_16 : BitVec 32 := 0#32
  let v36 : BitVec 1 := Scalar.cmpi .ne v35 c0_i32_16
  v36

def k0_off23 (i : grid0.Coords) : Fin 3 → Nat :=
  let arg0 : BitVec 32 := BitVec.ofNat 32 (i 0).val
  let c2_i32 : BitVec 32 := 2#32
  let v3 : BitVec 32 := Scalar.remsi arg0 c2_i32
  let v48 : Index := Scalar.indexCast v3
  let c0_24 : Index := 0#32
  let c0_25 : Index := 0#32
  ![v48.toNat, 0, 0]
def k0_off24 (i : grid0.Coords) : Fin 3 → Nat :=
  let arg0 : BitVec 32 := BitVec.ofNat 32 (i 0).val
  let c2_i32 : BitVec 32 := 2#32
  let v3 : BitVec 32 := Scalar.remsi arg0 c2_i32
  let v60 : Index := Scalar.indexCast v3
  let c400 : Index := 400#32
  let c0_28 : Index := 0#32
  ![v60.toNat, 400, 0]
def k0_off25 (i : grid0.Coords) : Fin 3 → Nat :=
  let arg0 : BitVec 32 := BitVec.ofNat 32 (i 0).val
  let c2_i32 : BitVec 32 := 2#32
  let v3 : BitVec 32 := Scalar.remsi arg0 c2_i32
  let v72 : Index := Scalar.indexCast v3
  let c800 : Index := 800#32
  let c0_31 : Index := 0#32
  ![v72.toNat, 800, 0]
def k0_off26 (i : grid0.Coords) : Fin 3 → Nat :=
  let arg0 : BitVec 32 := BitVec.ofNat 32 (i 0).val
  let c2_i32 : BitVec 32 := 2#32
  let v3 : BitVec 32 := Scalar.remsi arg0 c2_i32
  let v84 : Index := Scalar.indexCast v3
  let c1200 : Index := 1200#32
  let c0_34 : Index := 0#32
  ![v84.toNat, 1200, 0]
def k0_off27 (i : grid0.Coords) : Fin 3 → Nat :=
  let arg0 : BitVec 32 := BitVec.ofNat 32 (i 0).val
  let c2_i32 : BitVec 32 := 2#32
  let v3 : BitVec 32 := Scalar.remsi arg0 c2_i32
  let v96 : Index := Scalar.indexCast v3
  let c1600 : Index := 1600#32
  let c0_37 : Index := 0#32
  ![v96.toNat, 1600, 0]
def k0_off28 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off29 (i : grid0.Coords) : Fin 2 → Nat :=
  let arg0 : BitVec 32 := BitVec.ofNat 32 (i 0).val
  let c50_i32 : BitVec 32 := 50#32
  let v0 : BitVec 1 := Scalar.cmpi .sge arg0 c50_i32
  let c50_i32_0 : BitVec 32 := 50#32
  let v1 : BitVec 32 := Scalar.subi arg0 c50_i32_0
  let v2 : BitVec 32 := Scalar.select v0 v1 arg0
  let c2000_i32 : BitVec 32 := 2000#32
  let v37 : BitVec 32 := Scalar.muli v2 c2000_i32
  let c0_i32_17 : BitVec 32 := 0#32
  ![v37.toNat, 0]
def k0_off30 (i : grid0.Coords) : Fin 3 → Nat :=
  let arg0 : BitVec 32 := BitVec.ofNat 32 (i 0).val
  let c2_i32 : BitVec 32 := 2#32
  let v3 : BitVec 32 := Scalar.remsi arg0 c2_i32
  let c0_i32_18 : BitVec 32 := 0#32
  let c0_i32_19 : BitVec 32 := 0#32
  ![v3.toNat, 0, 0]
def k0_cond10 (i : grid0.Coords) : BitVec 1 :=
  let arg0 : BitVec 32 := BitVec.ofNat 32 (i 0).val
  let c99_i32 : BitVec 32 := 99#32
  let v43 : BitVec 1 := Scalar.cmpi .eq arg0 c99_i32
  let v44 : BitVec 32 := Scalar.extui v43
  let c0_i32_20 : BitVec 32 := 0#32
  let v45 : BitVec 1 := Scalar.cmpi .ne v44 c0_i32_20
  v45

def k0_off31 (i : grid0.Coords) : Fin 1 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  ![v5.toNat]
def k0_off32 (i : grid0.Coords) : Fin 2 → Nat :=
  let arg0 : BitVec 32 := BitVec.ofNat 32 (i 0).val
  let c1_i32_21 : BitVec 32 := 1#32
  let v46 : BitVec 32 := Scalar.subi arg0 c1_i32_21
  let c50_i32_22 : BitVec 32 := 50#32
  let v47 : BitVec 1 := Scalar.cmpi .sge v46 c50_i32_22
  let c1_i32_23 : BitVec 32 := 1#32
  let v48 : BitVec 32 := Scalar.subi arg0 c1_i32_23
  let c50_i32_24 : BitVec 32 := 50#32
  let v49 : BitVec 32 := Scalar.subi v48 c50_i32_24
  let c1_i32_25 : BitVec 32 := 1#32
  let v50 : BitVec 32 := Scalar.subi arg0 c1_i32_25
  let v51 : BitVec 32 := Scalar.select v47 v49 v50
  let c2000_i32_26 : BitVec 32 := 2000#32
  let v52 : BitVec 32 := Scalar.muli v51 c2000_i32_26
  let c0_i32_27 : BitVec 32 := 0#32
  ![v52.toNat, 0]
def k0_off33 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let c0_i32_28 : BitVec 32 := 0#32
  let c0_i32_29 : BitVec 32 := 0#32
  ![v5.toNat, 0, 0]
def k0_off34 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off35 (i : grid0.Coords) : Fin 2 → Nat :=
  let arg0 : BitVec 32 := BitVec.ofNat 32 (i 0).val
  let c50_i32 : BitVec 32 := 50#32
  let v0 : BitVec 1 := Scalar.cmpi .sge arg0 c50_i32
  let c50_i32_0 : BitVec 32 := 50#32
  let v1 : BitVec 32 := Scalar.subi arg0 c50_i32_0
  let v2 : BitVec 32 := Scalar.select v0 v1 arg0
  let c2000_i32_30 : BitVec 32 := 2000#32
  let v58 : BitVec 32 := Scalar.muli v2 c2000_i32_30
  let c0_i32_31 : BitVec 32 := 0#32
  ![v58.toNat, 0]
def k0_off36 (i : grid0.Coords) : Fin 3 → Nat :=
  let arg0 : BitVec 32 := BitVec.ofNat 32 (i 0).val
  let c2_i32 : BitVec 32 := 2#32
  let v3 : BitVec 32 := Scalar.remsi arg0 c2_i32
  let c0_i32_32 : BitVec 32 := 0#32
  let c0_i32_33 : BitVec 32 := 0#32
  ![v3.toNat, 0, 0]
def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 305
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S128x100000, .i64⟩
  | 24 => ⟨S128x100000, .i64⟩
  | 25 => ⟨S_, .i64⟩
  | 26 => ⟨S128x100000, .i64⟩
  | 27 => ⟨S128x100000, .i64⟩
  | 28 => ⟨S_, .i64⟩
  | 29 => ⟨S128x100000, .i64⟩
  | 30 => ⟨S128x100000, .i64⟩
  | 31 => ⟨S128x100000, .i64⟩
  | 32 => ⟨S_, .i64⟩
  | 33 => ⟨S128x100000, .i64⟩
  | 34 => ⟨S128x100000, .i64⟩
  | 35 => ⟨S128x100000, .i32⟩
  | 36 => ⟨S128x100000, .i32⟩
  | 37 => ⟨S_, .i32⟩
  | 38 => ⟨S_, .i32⟩
  | 39 => ⟨S_, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S_, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .f32⟩
  | 11 => ⟨S_, .f32⟩
  | 12 => ⟨S128x100000, .f32⟩
  | 13 => ⟨S128x100000, .f32⟩
  | 14 => ⟨S1x1, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S_, .f32⟩
  | 22 => ⟨S128x100000, .f32⟩
  | 23 => ⟨S128x100000, .f32⟩
  | 24 => ⟨S128x100000, .f32⟩
  | 25 => ⟨S128x100000, .f32⟩
  | 26 => ⟨S_, .f32⟩
  | 27 => ⟨S128x100000, .f32⟩
  | 28 => ⟨S128x100000, .f32⟩
  | 29 => ⟨S128x100000, .f32⟩
  | 30 => ⟨S128x100000, .f32⟩
  | 31 => ⟨S128x100000, .f32⟩
  | 32 => ⟨S_, .f32⟩
  | 33 => ⟨S128x100000, .f32⟩
  | 34 => ⟨S128x100000, .f32⟩
  | 35 => ⟨S_, .f32⟩
  | 36 => ⟨S128, .f32⟩
  | 37 => ⟨S_, .f32⟩
  | 38 => ⟨S128, .f32⟩
  | 39 => ⟨S128, .f32⟩
  | 40 => ⟨S128x1, .f32⟩
  | 41 => ⟨S128x100000, .f32⟩
  | 42 => ⟨S128x100000, .f32⟩
  | 43 => ⟨S128x100000, .f32⟩
  | 44 => ⟨S_, .f32⟩
  | 45 => ⟨S128, .f32⟩
  | 46 => ⟨S128x1, .f32⟩
  | 47 => ⟨S128x100000, .f32⟩
  | 48 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v7 : Ref sig .tc := ⟨.hbm, 276, rfl⟩
abbrev main_cst_3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_cst_4 : Ref sig .tc := ⟨.hbm, 282, rfl⟩
abbrev main_v12 : Ref sig .tc := ⟨.hbm, 283, rfl⟩
abbrev main_v13 : Ref sig .tc := ⟨.hbm, 284, rfl⟩
abbrev main_v14 : Ref sig .tc := ⟨.hbm, 285, rfl⟩
abbrev main_v15 : Ref sig .tc := ⟨.hbm, 286, rfl⟩
abbrev main_v16 : Ref sig .tc := ⟨.hbm, 287, rfl⟩
abbrev main_v17 : Ref sig .tc := ⟨.hbm, 288, rfl⟩
abbrev main_v18 : Ref sig .tc := ⟨.hbm, 289, rfl⟩
abbrev main_v19 : Ref sig .tc := ⟨.hbm, 290, rfl⟩
abbrev main_cst_5 : Ref sig .tc := ⟨.hbm, 291, rfl⟩
abbrev main_v20 : Ref sig .tc := ⟨.hbm, 292, rfl⟩
abbrev main_cst_6 : Ref sig .tc := ⟨.hbm, 293, rfl⟩
abbrev main_v21 : Ref sig .tc := ⟨.hbm, 294, rfl⟩
abbrev main_v22 : Ref sig .tc := ⟨.hbm, 295, rfl⟩
abbrev main_v23 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_cst_7 : Ref sig .tc := ⟨.hbm, 300, rfl⟩
abbrev main_v27 : Ref sig .tc := ⟨.hbm, 301, rfl⟩
abbrev main_v28 : Ref sig .tc := ⟨.hbm, 302, rfl⟩
abbrev main_v29 : Ref sig .tc := ⟨.hbm, 303, rfl⟩
abbrev main_v30 : Ref sig .tc := ⟨.hbm, 304, rfl⟩

abbrev nD : Nat := 1
abbrev τ : Topo := Topo.v7x

variable {F : FTy → Type} [FloatOps F]
-- ==== Proof.KernelIdeal.Names.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Ring.WriteBehind
public import Idealize.ShloMosaic.Lib.Tactic
public import Idealize.ShloMosaic.Lib.WordCmp

@[expose] public section

/-! The names the proof is stated over: the two slots of the input buffer, the two tiles of the output buffer, the
fifty chunks of the two arrays in HBM, the four semaphore cells; and, for each place where the body spells one of them by
an offset computed from the grid point, the equation naming it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- Step `n`'s slot, -/
def sl (n : ℕ) : Fin 2 := ⟨n % 2, Nat.mod_lt _ (by decide)⟩
/-- and its chunk. -/
def ck (n : ℕ) : Fin 50 := ⟨n % 50, Nat.mod_lt _ (by decide)⟩

/-! ## The conditions of the body, by the point's number -/

theorem hcond1 : ∀ t : Fin grid0.N, k0_cond1 (grid0.coords t) = 1#1 ↔ (t.val = 0) := by decide +kernel
theorem hcond2 : ∀ t : Fin grid0.N, k0_cond2 (grid0.coords t) = 1#1 ↔ (t.val < 49) := by decide +kernel
theorem hcond3 : ∀ t : Fin grid0.N, k0_cond3 (grid0.coords t) = 1#1 ↔ (49 ≤ t.val ∧ t.val < 99) := by decide +kernel
theorem hcond4 : ∀ t : Fin grid0.N, k0_cond4 (grid0.coords t) = 1#1 ↔ (t.val < 50) := by decide +kernel
theorem hcond5 : ∀ t : Fin grid0.N, k0_cond5 (grid0.coords t) = 1#1 ↔ (50 ≤ t.val) := by decide +kernel
theorem hcond6 : ∀ t : Fin grid0.N, k0_cond6 (grid0.coords t) = 1#1 ↔ (2 ≤ t.val) := by decide +kernel
theorem hcond8 : ∀ t : Fin grid0.N, k0_cond8 (grid0.coords t) = 1#1 ↔ (t.val < 50) := by decide +kernel
theorem hcond9 : ∀ t : Fin grid0.N, k0_cond9 (grid0.coords t) = 1#1 ↔ (50 ≤ t.val) := by decide +kernel
theorem hcond10 : ∀ t : Fin grid0.N, k0_cond10 (grid0.coords t) = 1#1 ↔ (t.val = 99) := by decide +kernel
/-- The condition under which the final maximum and sum are taken, spelt as the body computes it. -/
abbrev cond7 (i : grid0.Coords) : Prop :=
  Scalar.cmpi .ne (Scalar.extui (Scalar.cmpi .eq (BitVec.ofNat 32 (i 0).val) 50#32)) 0#32 = 1#1
theorem hcond7 : ∀ t : Fin grid0.N, cond7 (grid0.coords t) ↔ (t.val = 50) := by decide +kernel

/-! ## Slots, tiles, chunks, cells -/

/-- The operands held whole: the transposed logits, the result, the two double buffers. -/
abbrev mX : Memref sig .tc .hbm S100000x128 .f32 := Memref.whole main_v0
abbrev mO : Memref sig .tc .hbm S100000x128 .f32 := Memref.whole main_v2
abbrev mIn : Memref sig .tc .vmem S2x2000x128 .f32 := Memref.whole cc0_scratch0
abbrev mOut : Memref sig .tc .vmem S2x2000x128 .f32 := Memref.whole cc0_scratch1

theorem inb_slot (s : Fin 2) : ∀ a, (![s.val, 0, 0] : Fin 3 → Nat) a + S1x2000x128.size a ≤ S2x2000x128.size a := by
  have := s.isLt; intro a; fin_cases a <;> simp <;> omega
theorem inb_chunk (b : Fin 50) : ∀ a, (![2000 * b.val, 0] : Fin 2 → Nat) a + S2000x128.size a ≤ S100000x128.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of the input buffer, -/
def slot (s : Fin 2) : Memref sig .tc .vmem S2000x128 .f32 :=
  (mIn.slice (Rect.unit (s := S2x2000x128) ![s.val, 0, 0] S1x2000x128.size (inb_slot s)) (fun _ => rfl)).squeeze S2000x128 squeezes_S1x2000x128_S2000x128
/-- tile `s` of the output buffer, -/
def tile (s : Fin 2) : Memref sig .tc .vmem S2000x128 .f32 :=
  (mOut.slice (Rect.unit (s := S2x2000x128) ![s.val, 0, 0] S1x2000x128.size (inb_slot s)) (fun _ => rfl)).squeeze S2000x128 squeezes_S1x2000x128_S2000x128
/-- chunk `b` of the logits, -/
def chX (b : Fin 50) : Memref sig .tc .hbm S2000x128 .f32 :=
  mX.slice (Rect.unit (s := S100000x128) ![2000 * b.val, 0] S2000x128.size (inb_chunk b)) (fun _ => rfl)
/-- chunk `b` of the result, -/
def chO (b : Fin 50) : Memref sig .tc .hbm S2000x128 .f32 :=
  mO.slice (Rect.unit (s := S100000x128) ![2000 * b.val, 0] S2000x128.size (inb_chunk b)) (fun _ => rfl)
/-- and the two rows of cells. -/
def cellI (s : Fin 2) : DmaSems sig S_ := (cc0_scratch5.slice (Rect.unit (s := S2) ![s.val] S1.size (inb_cell s))).squeeze S_ squeezes_S1_S_
def cellO (s : Fin 2) : DmaSems sig S_ := (cc0_scratch6.slice (Rect.unit (s := S2) ![s.val] S1.size (inb_cell s))).squeeze S_ squeezes_S1_S_
abbrev semI (s : Fin 2) : SemLoc sig := SemLoc.dma (cellI s).sem
abbrev semO (s : Fin 2) : SemLoc sig := SemLoc.dma (cellO s).sem
theorem semI_0 : semI 0 = SemLoc.dma 1 := by decide
theorem semI_1 : semI 1 = SemLoc.dma 2 := by decide
theorem semO_0 : semO 0 = SemLoc.dma 3 := by decide
theorem semO_1 : semO 1 = SemLoc.dma 4 := by decide

/-! ## Where the body's offsets point -/

section Names

set_option synthInstance.maxSize 4096 in
theorem off1_eq : ∀ t : Fin grid0.N, k0_off1 (grid0.coords t) = ![(sl t.val).val] := by decide +kernel
@[sl_canon] theorem canon1 (t : Fin grid0.N) (h : k0_cond1 (grid0.coords t) = 1#1) :
    (cc0_scratch5.slice (Rect.unit (s := S2) (k0_off1 (grid0.coords t)) S1.size (k0_off1_inb (grid0.coords t) h))).squeeze S_ squeezes_S1_S_ = cellI (sl t.val) :=
  congrArg (fun A : DmaSems sig S1 => A.squeeze S_ squeezes_S1_S_) (SemArray.slice_unit_congr _ (off1_eq t) _ _)
set_option synthInstance.maxSize 4096 in
theorem off2_eq : ∀ t : Fin grid0.N, k0_off2 (grid0.coords t) = ![(sl t.val).val, 0, 0] := by decide +kernel
@[sl_canon] theorem canon2 (t : Fin grid0.N) (h : k0_cond1 (grid0.coords t) = 1#1) :
    (mIn.slice (Rect.unit (s := S2x2000x128) (k0_off2 (grid0.coords t)) S1x2000x128.size (k0_off2_inb (grid0.coords t) h)) (fun _ => rfl)).squeeze S2000x128 squeezes_S1x2000x128_S2000x128 = slot (sl t.val) :=
  congrArg (fun M : Memref sig .tc .vmem S1x2000x128 .f32 => M.squeeze S2000x128 squeezes_S1x2000x128_S2000x128) (Memref.slice_unit_congr _ (off2_eq t) _ _ (fun _ => rfl) (fun _ => rfl))
set_option synthInstance.maxSize 4096 in
theorem off3_eq : ∀ t : Fin grid0.N, k0_off3 (grid0.coords t) = ![(sl (t.val + 1)).val] := by decide +kernel
@[sl_canon] theorem canon3 (t : Fin grid0.N) (h : k0_cond2 (grid0.coords t) = 1#1) :
    (cc0_scratch5.slice (Rect.unit (s := S2) (k0_off3 (grid0.coords t)) S1.size (k0_off3_inb (grid0.coords t) h))).squeeze S_ squeezes_S1_S_ = cellI (sl (t.val + 1)) :=
  congrArg (fun A : DmaSems sig S1 => A.squeeze S_ squeezes_S1_S_) (SemArray.slice_unit_congr _ (off3_eq t) _ _)
set_option synthInstance.maxSize 4096 in
theorem off4_eq : ∀ t : Fin grid0.N, k0_off4 (grid0.coords t) = ![(sl (t.val + 1)).val, 0, 0] := by decide +kernel
@[sl_canon] theorem canon4 (t : Fin grid0.N) (h : k0_cond2 (grid0.coords t) = 1#1) :
    (mIn.slice (Rect.unit (s := S2x2000x128) (k0_off4 (grid0.coords t)) S1x2000x128.size (k0_off4_inb (grid0.coords t) h)) (fun _ => rfl)).squeeze S2000x128 squeezes_S1x2000x128_S2000x128 = slot (sl (t.val + 1)) :=
  congrArg (fun M : Memref sig .tc .vmem S1x2000x128 .f32 => M.squeeze S2000x128 squeezes_S1x2000x128_S2000x128) (Memref.slice_unit_congr _ (off4_eq t) _ _ (fun _ => rfl) (fun _ => rfl))
set_option synthInstance.maxSize 4096 in
theorem off5_eq : ∀ t : Fin grid0.N, k0_cond2 (grid0.coords t) = 1#1 → k0_off5 (grid0.coords t) = ![2000 * (ck (t.val + 1)).val, 0] := by decide +kernel
@[sl_canon] theorem canon5 (t : Fin grid0.N) (h : k0_cond2 (grid0.coords t) = 1#1) :
    mX.slice (Rect.unit (s := S100000x128) (k0_off5 (grid0.coords t)) S2000x128.size (k0_off5_inb (grid0.coords t) h)) (fun _ => rfl) = chX (ck (t.val + 1)) :=
  congrArg (fun M : Memref sig .tc .hbm S2000x128 .f32 => M) (Memref.slice_unit_congr _ (off5_eq t h) _ _ (fun _ => rfl) (fun _ => rfl))
set_option synthInstance.maxSize 4096 in
theorem off6_eq : ∀ t : Fin grid0.N, k0_off6 (grid0.coords t) = ![(sl (t.val + 1)).val] := by decide +kernel
@[sl_canon] theorem canon6 (t : Fin grid0.N) (h : k0_cond3 (grid0.coords t) = 1#1) :
    (cc0_scratch5.slice (Rect.unit (s := S2) (k0_off6 (grid0.coords t)) S1.size (k0_off6_inb (grid0.coords t) h))).squeeze S_ squeezes_S1_S_ = cellI (sl (t.val + 1)) :=
  congrArg (fun A : DmaSems sig S1 => A.squeeze S_ squeezes_S1_S_) (SemArray.slice_unit_congr _ (off6_eq t) _ _)
set_option synthInstance.maxSize 4096 in
theorem off7_eq : ∀ t : Fin grid0.N, k0_off7 (grid0.coords t) = ![(sl (t.val + 1)).val, 0, 0] := by decide +kernel
@[sl_canon] theorem canon7 (t : Fin grid0.N) (h : k0_cond3 (grid0.coords t) = 1#1) :
    (mIn.slice (Rect.unit (s := S2x2000x128) (k0_off7 (grid0.coords t)) S1x2000x128.size (k0_off7_inb (grid0.coords t) h)) (fun _ => rfl)).squeeze S2000x128 squeezes_S1x2000x128_S2000x128 = slot (sl (t.val + 1)) :=
  congrArg (fun M : Memref sig .tc .vmem S1x2000x128 .f32 => M.squeeze S2000x128 squeezes_S1x2000x128_S2000x128) (Memref.slice_unit_congr _ (off7_eq t) _ _ (fun _ => rfl) (fun _ => rfl))
set_option synthInstance.maxSize 4096 in
theorem off8_eq : ∀ t : Fin grid0.N, k0_cond3 (grid0.coords t) = 1#1 → k0_off8 (grid0.coords t) = ![2000 * (ck (t.val + 1)).val, 0] := by decide +kernel
@[sl_canon] theorem canon8 (t : Fin grid0.N) (h : k0_cond3 (grid0.coords t) = 1#1) :
    mO.slice (Rect.unit (s := S100000x128) (k0_off8 (grid0.coords t)) S2000x128.size (k0_off8_inb (grid0.coords t) h)) (fun _ => rfl) = chO (ck (t.val + 1)) :=
  congrArg (fun M : Memref sig .tc .hbm S2000x128 .f32 => M) (Memref.slice_unit_congr _ (off8_eq t h) _ _ (fun _ => rfl) (fun _ => rfl))
set_option synthInstance.maxSize 4096 in
theorem off9_eq : ∀ t : Fin grid0.N, k0_off9 (grid0.coords t) = ![(sl t.val).val] := by decide +kernel
@[sl_canon] theorem canon9 (t : Fin grid0.N) (h : k0_cond4 (grid0.coords t) = 1#1) :
    (cc0_scratch5.slice (Rect.unit (s := S2) (k0_off9 (grid0.coords t)) S1.size (k0_off9_inb (grid0.coords t) h))).squeeze S_ squeezes_S1_S_ = cellI (sl t.val) :=
  congrArg (fun A : DmaSems sig S1 => A.squeeze S_ squeezes_S1_S_) (SemArray.slice_unit_congr _ (off9_eq t) _ _)
set_option synthInstance.maxSize 4096 in
theorem off10_eq : ∀ t : Fin grid0.N, k0_off10 (grid0.coords t) = ![(sl t.val).val, 0, 0] := by decide +kernel
@[sl_canon] theorem canon10 (t : Fin grid0.N) (h : k0_cond4 (grid0.coords t) = 1#1) :
    (mIn.slice (Rect.unit (s := S2x2000x128) (k0_off10 (grid0.coords t)) S1x2000x128.size (k0_off10_inb (grid0.coords t) h)) (fun _ => rfl)).squeeze S2000x128 squeezes_S1x2000x128_S2000x128 = slot (sl t.val) :=
  congrArg (fun M : Memref sig .tc .vmem S1x2000x128 .f32 => M.squeeze S2000x128 squeezes_S1x2000x128_S2000x128) (Memref.slice_unit_congr _ (off10_eq t) _ _ (fun _ => rfl) (fun _ => rfl))
set_option synthInstance.maxSize 4096 in
theorem off11_eq : ∀ t : Fin grid0.N, k0_cond4 (grid0.coords t) = 1#1 → k0_off11 (grid0.coords t) = ![2000 * (ck t.val).val, 0] := by decide +kernel
@[sl_canon] theorem canon11 (t : Fin grid0.N) (h : k0_cond4 (grid0.coords t) = 1#1) :
    mX.slice (Rect.unit (s := S100000x128) (k0_off11 (grid0.coords t)) S2000x128.size (k0_off11_inb (grid0.coords t) h)) (fun _ => rfl) = chX (ck t.val) :=
  congrArg (fun M : Memref sig .tc .hbm S2000x128 .f32 => M) (Memref.slice_unit_congr _ (off11_eq t h) _ _ (fun _ => rfl) (fun _ => rfl))
set_option synthInstance.maxSize 4096 in
theorem off12_eq : ∀ t : Fin grid0.N, k0_off12 (grid0.coords t) = ![(sl t.val).val] := by decide +kernel
@[sl_canon] theorem canon12 (t : Fin grid0.N) (h : k0_cond5 (grid0.coords t) = 1#1) :
    (cc0_scratch5.slice (Rect.unit (s := S2) (k0_off12 (grid0.coords t)) S1.size (k0_off12_inb (grid0.coords t) h))).squeeze S_ squeezes_S1_S_ = cellI (sl t.val) :=
  congrArg (fun A : DmaSems sig S1 => A.squeeze S_ squeezes_S1_S_) (SemArray.slice_unit_congr _ (off12_eq t) _ _)
set_option synthInstance.maxSize 4096 in
theorem off13_eq : ∀ t : Fin grid0.N, k0_off13 (grid0.coords t) = ![(sl t.val).val, 0, 0] := by decide +kernel
@[sl_canon] theorem canon13 (t : Fin grid0.N) (h : k0_cond5 (grid0.coords t) = 1#1) :
    (mIn.slice (Rect.unit (s := S2x2000x128) (k0_off13 (grid0.coords t)) S1x2000x128.size (k0_off13_inb (grid0.coords t) h)) (fun _ => rfl)).squeeze S2000x128 squeezes_S1x2000x128_S2000x128 = slot (sl t.val) :=
  congrArg (fun M : Memref sig .tc .vmem S1x2000x128 .f32 => M.squeeze S2000x128 squeezes_S1x2000x128_S2000x128) (Memref.slice_unit_congr _ (off13_eq t) _ _ (fun _ => rfl) (fun _ => rfl))
set_option synthInstance.maxSize 4096 in
theorem off14_eq : ∀ t : Fin grid0.N, k0_cond5 (grid0.coords t) = 1#1 → k0_off14 (grid0.coords t) = ![2000 * (ck t.val).val, 0] := by decide +kernel
@[sl_canon] theorem canon14 (t : Fin grid0.N) (h : k0_cond5 (grid0.coords t) = 1#1) :
    mO.slice (Rect.unit (s := S100000x128) (k0_off14 (grid0.coords t)) S2000x128.size (k0_off14_inb (grid0.coords t) h)) (fun _ => rfl) = chO (ck t.val) :=
  congrArg (fun M : Memref sig .tc .hbm S2000x128 .f32 => M) (Memref.slice_unit_congr _ (off14_eq t h) _ _ (fun _ => rfl) (fun _ => rfl))
set_option synthInstance.maxSize 4096 in
theorem off15_eq : ∀ t : Fin grid0.N, k0_off15 (grid0.coords t) = ![(sl t.val).val] := by decide +kernel
@[sl_canon] theorem canon15 (t : Fin grid0.N) (h : k0_cond6 (grid0.coords t) = 1#1) :
    (cc0_scratch6.slice (Rect.unit (s := S2) (k0_off15 (grid0.coords t)) S1.size (k0_off15_inb (grid0.coords t) h))).squeeze S_ squeezes_S1_S_ = cellO (sl t.val) :=
  congrArg (fun A : DmaSems sig S1 => A.squeeze S_ squeezes_S1_S_) (SemArray.slice_unit_congr _ (off15_eq t) _ _)
set_option synthInstance.maxSize 4096 in
theorem off16_eq : ∀ t : Fin grid0.N, k0_cond6 (grid0.coords t) = 1#1 → k0_off16 (grid0.coords t) = ![2000 * (ck (t.val + 48)).val, 0] := by decide +kernel
@[sl_canon] theorem canon16 (t : Fin grid0.N) (h : k0_cond6 (grid0.coords t) = 1#1) :
    mO.slice (Rect.unit (s := S100000x128) (k0_off16 (grid0.coords t)) S2000x128.size (k0_off16_inb (grid0.coords t) h)) (fun _ => rfl) = chO (ck (t.val + 48)) :=
  congrArg (fun M : Memref sig .tc .hbm S2000x128 .f32 => M) (Memref.slice_unit_congr _ (off16_eq t h) _ _ (fun _ => rfl) (fun _ => rfl))
set_option synthInstance.maxSize 4096 in
theorem off17_eq : ∀ t : Fin grid0.N, k0_off17 (grid0.coords t) = ![(sl t.val).val, 0, 0] := by decide +kernel
@[sl_canon] theorem canon17 (t : Fin grid0.N) (h : k0_cond6 (grid0.coords t) = 1#1) :
    (mOut.slice (Rect.unit (s := S2x2000x128) (k0_off17 (grid0.coords t)) S1x2000x128.size (k0_off17_inb (grid0.coords t) h)) (fun _ => rfl)).squeeze S2000x128 squeezes_S1x2000x128_S2000x128 = tile (sl t.val) :=
  congrArg (fun M : Memref sig .tc .vmem S1x2000x128 .f32 => M.squeeze S2000x128 squeezes_S1x2000x128_S2000x128) (Memref.slice_unit_congr _ (off17_eq t) _ _ (fun _ => rfl) (fun _ => rfl))
set_option synthInstance.maxSize 4096 in
theorem off28_eq : ∀ t : Fin grid0.N, k0_off28 (grid0.coords t) = ![(sl t.val).val] := by decide +kernel
@[sl_canon] theorem canon28 (t : Fin grid0.N) :
    (cc0_scratch6.slice (Rect.unit (s := S2) (k0_off28 (grid0.coords t)) ![1] (k0_off28_inb (grid0.coords t)))).squeeze S_ squeezes_S1_S_ = cellO (sl t.val) :=
  congrArg (fun A : DmaSems sig S1 => A.squeeze S_ squeezes_S1_S_) (SemArray.slice_unit_congr _ (off28_eq t) _ _)
set_option synthInstance.maxSize 4096 in
theorem off29_eq : ∀ t : Fin grid0.N, k0_off29 (grid0.coords t) = ![2000 * (ck t.val).val, 0] := by decide +kernel
@[sl_canon] theorem canon29 (t : Fin grid0.N) :
    mO.slice (Rect.unit (s := S100000x128) (k0_off29 (grid0.coords t)) ![2000, 128] (k0_off29_inb (grid0.coords t))) (fun _ => rfl) = chO (ck t.val) :=
  congrArg (fun M : Memref sig .tc .hbm S2000x128 .f32 => M) (Memref.slice_unit_congr _ (off29_eq t) _ _ (fun _ => rfl) (fun _ => rfl))
set_option synthInstance.maxSize 4096 in
theorem off30_eq : ∀ t : Fin grid0.N, k0_off30 (grid0.coords t) = ![(sl t.val).val, 0, 0] := by decide +kernel
@[sl_canon] theorem canon30 (t : Fin grid0.N) :
    (mOut.slice (Rect.unit (s := S2x2000x128) (k0_off30 (grid0.coords t)) ![1, 2000, 128] (k0_off30_inb (grid0.coords t))) (fun _ => rfl)).squeeze S2000x128 squeezes_S1x2000x128_S2000x128 = tile (sl t.val) :=
  congrArg (fun M : Memref sig .tc .vmem S1x2000x128 .f32 => M.squeeze S2000x128 squeezes_S1x2000x128_S2000x128) (Memref.slice_unit_congr _ (off30_eq t) _ _ (fun _ => rfl) (fun _ => rfl))
set_option synthInstance.maxSize 4096 in
theorem off31_eq : ∀ t : Fin grid0.N, k0_off31 (grid0.coords t) = ![(sl (t.val + 1)).val] := by decide +kernel
@[sl_canon] theorem canon31 (t : Fin grid0.N) (h : k0_cond10 (grid0.coords t) = 1#1) :
    (cc0_scratch6.slice (Rect.unit (s := S2) (k0_off31 (grid0.coords t)) ![1] (k0_off31_inb (grid0.coords t) h))).squeeze S_ squeezes_S1_S_ = cellO (sl (t.val + 1)) :=
  congrArg (fun A : DmaSems sig S1 => A.squeeze S_ squeezes_S1_S_) (SemArray.slice_unit_congr _ (off31_eq t) _ _)
set_option synthInstance.maxSize 4096 in
theorem off32_eq : ∀ t : Fin grid0.N, k0_cond10 (grid0.coords t) = 1#1 → k0_off32 (grid0.coords t) = ![2000 * (ck (t.val + 49)).val, 0] := by decide +kernel
@[sl_canon] theorem canon32 (t : Fin grid0.N) (h : k0_cond10 (grid0.coords t) = 1#1) :
    mO.slice (Rect.unit (s := S100000x128) (k0_off32 (grid0.coords t)) ![2000, 128] (k0_off32_inb (grid0.coords t) h)) (fun _ => rfl) = chO (ck (t.val + 49)) :=
  congrArg (fun M : Memref sig .tc .hbm S2000x128 .f32 => M) (Memref.slice_unit_congr _ (off32_eq t h) _ _ (fun _ => rfl) (fun _ => rfl))
set_option synthInstance.maxSize 4096 in
theorem off33_eq : ∀ t : Fin grid0.N, k0_off33 (grid0.coords t) = ![(sl (t.val + 1)).val, 0, 0] := by decide +kernel
@[sl_canon] theorem canon33 (t : Fin grid0.N) (h : k0_cond10 (grid0.coords t) = 1#1) :
    (mOut.slice (Rect.unit (s := S2x2000x128) (k0_off33 (grid0.coords t)) ![1, 2000, 128] (k0_off33_inb (grid0.coords t) h)) (fun _ => rfl)).squeeze S2000x128 squeezes_S1x2000x128_S2000x128 = tile (sl (t.val + 1)) :=
  congrArg (fun M : Memref sig .tc .vmem S1x2000x128 .f32 => M.squeeze S2000x128 squeezes_S1x2000x128_S2000x128) (Memref.slice_unit_congr _ (off33_eq t) _ _ (fun _ => rfl) (fun _ => rfl))
set_option synthInstance.maxSize 4096 in
theorem off34_eq : ∀ t : Fin grid0.N, k0_off34 (grid0.coords t) = ![(sl t.val).val] := by decide +kernel
@[sl_canon] theorem canon34 (t : Fin grid0.N) (h : k0_cond10 (grid0.coords t) = 1#1) :
    (cc0_scratch6.slice (Rect.unit (s := S2) (k0_off34 (grid0.coords t)) ![1] (k0_off34_inb (grid0.coords t) h))).squeeze S_ squeezes_S1_S_ = cellO (sl t.val) :=
  congrArg (fun A : DmaSems sig S1 => A.squeeze S_ squeezes_S1_S_) (SemArray.slice_unit_congr _ (off34_eq t) _ _)
set_option synthInstance.maxSize 4096 in
theorem off35_eq : ∀ t : Fin grid0.N, k0_cond10 (grid0.coords t) = 1#1 → k0_off35 (grid0.coords t) = ![2000 * (ck t.val).val, 0] := by decide +kernel
@[sl_canon] theorem canon35 (t : Fin grid0.N) (h : k0_cond10 (grid0.coords t) = 1#1) :
    mO.slice (Rect.unit (s := S100000x128) (k0_off35 (grid0.coords t)) ![2000, 128] (k0_off35_inb (grid0.coords t) h)) (fun _ => rfl) = chO (ck t.val) :=
  congrArg (fun M : Memref sig .tc .hbm S2000x128 .f32 => M) (Memref.slice_unit_congr _ (off35_eq t h) _ _ (fun _ => rfl) (fun _ => rfl))
set_option synthInstance.maxSize 4096 in
theorem off36_eq : ∀ t : Fin grid0.N, k0_off36 (grid0.coords t) = ![(sl t.val).val, 0, 0] := by decide +kernel
@[sl_canon] theorem canon36 (t : Fin grid0.N) (h : k0_cond10 (grid0.coords t) = 1#1) :
    (mOut.slice (Rect.unit (s := S2x2000x128) (k0_off36 (grid0.coords t)) ![1, 2000, 128] (k0_off36_inb (grid0.coords t) h)) (fun _ => rfl)).squeeze S2000x128 squeezes_S1x2000x128_S2000x128 = tile (sl t.val) :=
  congrArg (fun M : Memref sig .tc .vmem S1x2000x128 .f32 => M.squeeze S2000x128 squeezes_S1x2000x128_S2000x128) (Memref.slice_unit_congr _ (off36_eq t) _ _ (fun _ => rfl) (fun _ => rfl))
@[sl_canon] theorem canon0 :
    mX.slice (Rect.unit (s := S100000x128) ![0, 0] S2000x128.size inb_S100000x128_S2000x128_0_0) (fun _ => rfl) = chX (ck 0) :=
  congrArg (fun M : Memref sig .tc .hbm S2000x128 .f32 => M) (Memref.slice_unit_congr _ (by decide) _ _ (fun _ => rfl) (fun _ => rfl))

set_option synthInstance.maxSize 4096 in
theorem off18_eq : ∀ t : Fin grid0.N, k0_off18 (grid0.coords t) = ![(sl t.val).val, 0, 0] := by decide +kernel
instance (priority := high) closedOff18 (t : Fin grid0.N) : ClosedOff (k0_off18 (grid0.coords t)) := ⟨![(sl t.val).val, 0, 0], off18_eq t⟩
set_option synthInstance.maxSize 4096 in
theorem off19_eq : ∀ t : Fin grid0.N, k0_off19 (grid0.coords t) = ![(sl t.val).val, 400, 0] := by decide +kernel
instance (priority := high) closedOff19 (t : Fin grid0.N) : ClosedOff (k0_off19 (grid0.coords t)) := ⟨![(sl t.val).val, 400, 0], off19_eq t⟩
set_option synthInstance.maxSize 4096 in
theorem off20_eq : ∀ t : Fin grid0.N, k0_off20 (grid0.coords t) = ![(sl t.val).val, 800, 0] := by decide +kernel
instance (priority := high) closedOff20 (t : Fin grid0.N) : ClosedOff (k0_off20 (grid0.coords t)) := ⟨![(sl t.val).val, 800, 0], off20_eq t⟩
set_option synthInstance.maxSize 4096 in
theorem off21_eq : ∀ t : Fin grid0.N, k0_off21 (grid0.coords t) = ![(sl t.val).val, 1200, 0] := by decide +kernel
instance (priority := high) closedOff21 (t : Fin grid0.N) : ClosedOff (k0_off21 (grid0.coords t)) := ⟨![(sl t.val).val, 1200, 0], off21_eq t⟩
set_option synthInstance.maxSize 4096 in
theorem off22_eq : ∀ t : Fin grid0.N, k0_off22 (grid0.coords t) = ![(sl t.val).val, 1600, 0] := by decide +kernel
instance (priority := high) closedOff22 (t : Fin grid0.N) : ClosedOff (k0_off22 (grid0.coords t)) := ⟨![(sl t.val).val, 1600, 0], off22_eq t⟩
set_option synthInstance.maxSize 4096 in
theorem off23_eq : ∀ t : Fin grid0.N, k0_off23 (grid0.coords t) = ![(sl t.val).val, 0, 0] := by decide +kernel
instance (priority := high) closedOff23 (t : Fin grid0.N) : ClosedOff (k0_off23 (grid0.coords t)) := ⟨![(sl t.val).val, 0, 0], off23_eq t⟩
set_option synthInstance.maxSize 4096 in
theorem off24_eq : ∀ t : Fin grid0.N, k0_off24 (grid0.coords t) = ![(sl t.val).val, 400, 0] := by decide +kernel
instance (priority := high) closedOff24 (t : Fin grid0.N) : ClosedOff (k0_off24 (grid0.coords t)) := ⟨![(sl t.val).val, 400, 0], off24_eq t⟩
set_option synthInstance.maxSize 4096 in
theorem off25_eq : ∀ t : Fin grid0.N, k0_off25 (grid0.coords t) = ![(sl t.val).val, 800, 0] := by decide +kernel
instance (priority := high) closedOff25 (t : Fin grid0.N) : ClosedOff (k0_off25 (grid0.coords t)) := ⟨![(sl t.val).val, 800, 0], off25_eq t⟩
set_option synthInstance.maxSize 4096 in
theorem off26_eq : ∀ t : Fin grid0.N, k0_off26 (grid0.coords t) = ![(sl t.val).val, 1200, 0] := by decide +kernel
instance (priority := high) closedOff26 (t : Fin grid0.N) : ClosedOff (k0_off26 (grid0.coords t)) := ⟨![(sl t.val).val, 1200, 0], off26_eq t⟩
set_option synthInstance.maxSize 4096 in
theorem off27_eq : ∀ t : Fin grid0.N, k0_off27 (grid0.coords t) = ![(sl t.val).val, 1600, 0] := by decide +kernel
instance (priority := high) closedOff27 (t : Fin grid0.N) : ClosedOff (k0_off27 (grid0.coords t)) := ⟨![(sl t.val).val, 1600, 0], off27_eq t⟩

end Names

end Cert.KernelIdeal.Hand

end
-- ==== Proof.KernelIdeal.Vals.lean ====
module

public import proofs.«01_k».proof.Proof.Gen.KernelIdeal.Skeleton

@[expose] public section

/-! The values the body computes, written once for all five sub-blocks of a chunk. -/

namespace Cert.KernelIdeal.Hand

open Idealize.ShloMosaic Idealize.SL.Sem
open Cert.KernelIdeal Cert.KernelIdeal.Gen

variable {F : FTy → Type} [FloatOps F]

/-- A block of 400 rows of words. -/
abbrev WV := IVec S400x128 32

/-- A block filled with one word. -/
noncomputable abbrev kw (a : BitVec 32) : WV := broadcast S400x128 a

/-- What follows a state of the generator. -/
abbrev Kont := WV → WV → WV

/-- One round of the generator: add, rotate left by `r` (`s = 32 - r`), exclusive or; then `k`. -/
noncomputable def rndV (r s : BitVec 32) (k : Kont) : Kont := fun x y =>
  k (addi x y) (xori (addi x y) (ori (shli y (kw r)) (shrui y (kw s))))

/-- One key injection; then `k`. -/
noncomputable def injV (a b d : BitVec 32) (k : Kont) : Kont := fun x y =>
  k (addi x (kw a)) (addi (addi y (kw b)) (kw d))

/-- Rounds with the first group of rotations but its first. -/
noncomputable def grpA' (k : Kont) : Kont :=
  rndV 15#32 17#32 (rndV 26#32 6#32 (rndV 6#32 26#32 k))

/-- Rounds with the first group of rotations. -/
noncomputable def grpA (k : Kont) : Kont := rndV 13#32 19#32 (grpA' k)

/-- Rounds with the second group of rotations. -/
noncomputable def grpB (k : Kont) : Kont :=
  rndV 17#32 15#32 (rndV 29#32 3#32 (rndV 16#32 16#32 (rndV 24#32 8#32 k)))

/-- All that follows the first round. -/
noncomputable def restV : Kont :=
  grpA' (injV 1#32 466688987#32 1#32 (grpB (injV 466688987#32 0#32 2#32 (grpA (injV 0#32 1#32 3#32
    (grpB (injV 1#32 466688987#32 4#32 (grpA (injV 466688987#32 0#32 5#32 xori)))))))))

/-- The random words of a block with counters `j`. In the first round the first word is the counter's. -/
noncomputable def bitsV (j : WV) : WV :=
  restV (addi j (kw 1#32)) (xori (ori (shli (addi j (kw 1#32)) (kw 13#32)) (shrui (addi j (kw 1#32)) (kw 19#32))) (addi j (kw 1#32)))

/-- The counters of the sub-block at row offset `o` of chunk `v2`. -/
noncomputable def idxV (v2 o : BitVec 32) : WV :=
  addi (addi (muli (iota .tc S400x128 32 [1] iota_S400x128_d1_w32) (kw 100000#32))
    (kw (Scalar.addi (Scalar.muli v2 2000#32) o))) (iota .tc S400x128 32 [0] iota_S400x128_d0_w32)

/-- The noisy scaled logits of a block: `(x + g) * rt`. -/
noncomputable def zV (rt : F .f32) (b : WV) (x : Vec F S1x400x128 .f32) : FVec F S400x128 .f32 :=
  let f : FVec F S400x128 .f32 := bitcastToFloat .f32 (ori (shrui b (kw 9#32)) (kw 1065353216#32))
  let u := subf f (broadcast S400x128 (Scalar.ofBits .f32 0x3F800000#32))
  let e : FVec F S400x128 .f32 := broadcast S400x128 (Scalar.ofBits .f32 0x1E3CE508#32)
  let o : FVec F S400x128 .f32 := broadcast S400x128 (Scalar.ofBits .f32 0x00000000#32)
  mulf (addf (shapeCast S400x128 x shapeCasts_S1x400x128_S400x128) (subf o (log (addf (subf o (log (addf u e))) e)))) (broadcast S400x128 rt)

/-- The block as it is stored. -/
noncomputable def zSt (rt : F .f32) (v2 o : BitVec 32) (x : Vec F S1x400x128 .f32) : FVec F S1x400x128 .f32 :=
  shapeCast S1x400x128 (zV rt (bitsV (idxV v2 o)) x) shapeCasts_S400x128_S1x400x128

set_option maxRecDepth 65536 in
set_option maxHeartbeats 1000000 in
theorem z0_eq (rt : F .f32) (v2 : BitVec 32) (x : Vec F S1x400x128 .f32) :
    k0_pay54 rt (k0_pay7 x) (k0_pay51 (k0_pay39 (k0_pay28 (k0_pay15 v2) (k0_pay16 v2) k0_pay17) (k0_pay29 (k0_pay15 v2) (k0_pay16 v2) k0_pay17) 15#32)
      (k0_pay40 (k0_pay28 (k0_pay15 v2) (k0_pay16 v2) k0_pay17) (k0_pay29 (k0_pay15 v2) (k0_pay16 v2) k0_pay17) 15#32))
      (k0_pay52 (k0_pay39 (k0_pay28 (k0_pay15 v2) (k0_pay16 v2) k0_pay17) (k0_pay29 (k0_pay15 v2) (k0_pay16 v2) k0_pay17) 15#32)
      (k0_pay40 (k0_pay28 (k0_pay15 v2) (k0_pay16 v2) k0_pay17) (k0_pay29 (k0_pay15 v2) (k0_pay16 v2) k0_pay17) 15#32)) k0_pay53
    = zV rt (bitsV (idxV v2 0#32)) x := rfl

end Cert.KernelIdeal.Hand
-- ==== Proof.KernelIdeal.Blocks.lean ====
module

public import proofs.«01_k».proof.Proof.KernelIdeal.Names
public import proofs.«01_k».proof.Proof.KernelIdeal.Vals
public import Idealize.ShloMosaic.Lib.ValueLayout
public import Mathlib.Tactic.IntervalCases

@[expose] public section

/-! Chunks by blocks of 400 rows: what one body computes of a chunk, and how the two double buffers are read and
written block by block. -/

set_option maxRecDepth 16384

noncomputable section

namespace Cert.KernelIdeal.Hand

open Idealize.ShloMosaic Idealize.SL.Sem Idealize.ShloMosaic.ValueIdx
open Cert.KernelIdeal Cert.KernelIdeal.Gen

variable {F : FTy → Type} [FloatOps F]

/-! ## Values -/

/-- Rows `400 k` to `400 k + 399` of a chunk, as the body loads them. -/
def blkOf (X : Vec F S2000x128 .f32) (k : ℕ) : Vec F S1x400x128 .f32 := fun i =>
  X (ix2 (n0 := 2000) (n1 := 128) ⟨(400 * k + (i 1).val) % 2000, Nat.mod_lt _ (by decide)⟩ (i 2))

/-- The noisy scaled logits of block `k` of chunk `v2`, whose logits are `X`. -/
def zBlk (rt : F .f32) (v2 : BitVec 32) (X : Vec F S2000x128 .f32) (k : ℕ) : FVec F S400x128 .f32 :=
  zV rt (bitsV (idxV v2 (BitVec.ofNat 32 (400 * k)))) (blkOf X k)

/-- A chunk put together from its blocks. -/
def cat5 (z : ℕ → FVec F S400x128 .f32) : Vec F S2000x128 .f32 := fun y =>
  z ((y 0).val / 400) (ix2 (n0 := 400) (n1 := 128) ⟨(y 0).val % 400, Nat.mod_lt _ (by decide)⟩ (y 1))

/-- The running maximum after one more block, -/
def mN (m : Vec F S8x128 .f32) (z : FVec F S400x128 .f32) : Vec F S8x128 .f32 :=
  maximumf m (multiReduction .maximumf [0] S8x128 (shapeCast S50x8x128 z shapeCasts_S400x128_S50x8x128) 0xFF800000#32 reduces_S50x8x128_S8x128 (.inl rfl) rfl)

/-- and the running sum, rescaled to the new maximum. -/
def sN (m s : Vec F S8x128 .f32) (z : FVec F S400x128 .f32) : Vec F S8x128 .f32 :=
  addf (mulf s (exp (subf m (mN m z))))
    (multiReduction .add [0] S8x128 (exp (subf (shapeCast S50x8x128 z shapeCasts_S400x128_S50x8x128)
      (broadcastTo S50x8x128 (shapeCast S1x8x128 (mN m z) shapeCasts_S8x128_S1x8x128) broadcasts_S1x8x128_S50x8x128))) 0x00000000#32 reduces_S50x8x128_S8x128 (.inl rfl) rfl)

/-- The running maximum after `k` blocks `z 0, z 1, …`, -/
def mAt (z : ℕ → FVec F S400x128 .f32) (m : Vec F S8x128 .f32) : ℕ → Vec F S8x128 .f32
  | 0 => m
  | k + 1 => mN (mAt z m k) (z k)

/-- and the running sum. -/
def sAt (z : ℕ → FVec F S400x128 .f32) (m s : Vec F S8x128 .f32) : ℕ → Vec F S8x128 .f32
  | 0 => s
  | k + 1 => sN (mAt z m k) (sAt z m s k) (z k)

/-- One block of the second phase, as it is stored: `exp (z - m1) * rs`. -/
def yBlk (m1 rs : Vec F S1x128 .f32) (x : Vec F S1x400x128 .f32) : FVec F S400x128 .f32 :=
  mulf (exp (subf (shapeCast S400x128 x shapeCasts_S1x400x128_S400x128) (broadcastTo S400x128 m1 broadcasts_S1x128_S400x128)))
    (broadcastTo S400x128 rs broadcasts_S1x128_S400x128)

/-! ## The buffers, block by block -/

theorem casts_slot : S1x2000x128.ShapeCasts S2000x128 := by decide

/-- What slot `s` of the input buffer holds, -/
def slotRd (s : Fin 2) (f : mIn.view.ty.Contents (Elt F)) : Vec F S2000x128 .f32 := (slot s).view.read (Elt F) f
/-- what tile `s` of the output buffer holds, -/
def tileRd (s : Fin 2) (f : mOut.view.ty.Contents (Elt F)) : Vec F S2000x128 .f32 := (tile s).view.read (Elt F) f
/-- and the output buffer after one store of 400 rows. -/
def stBlk {off : Fin 3 → ℕ} (inb : ∀ a, off a + S1x400x128.size a ≤ S2x2000x128.size a) (w : FVec F S1x400x128 .f32)
    (f : mOut.view.ty.Contents (Elt F)) : mOut.view.ty.Contents (Elt F) :=
  (mOut.access (Rect.unit (s := S2x2000x128) off S1x400x128.size inb)).write (Elt F) f w Finset.univ

theorem slot_read (s : Fin 2) (f : mIn.view.ty.Contents (Elt F)) (y : S2000x128.Idx) :
    slotRd s f y = mIn.view.read (Elt F) f (ix3 (n0 := 2) (n1 := 2000) (n2 := 128) s (y 0) (y 1)) := by
  refine (congrFun (Memref.read_squeeze_slice mIn _ (fun _ => rfl) squeezes_S1x2000x128_S2000x128 casts_slot f) y).trans ?_
  rw [eq_ix2 y]
  refine (shapeCast_1ab_ab_apply _ _ _ _).trans ?_
  refine congrArg (mIn.view.read (Elt F) f) (funext fun a => Fin.ext ?_)
  fin_cases a <;> simp [Rect.toLoadRect, Rect.unit, LoadRect.idx]

theorem tile_read (s : Fin 2) (f : mOut.view.ty.Contents (Elt F)) (y : S2000x128.Idx) :
    tileRd s f y = mOut.view.read (Elt F) f (ix3 (n0 := 2) (n1 := 2000) (n2 := 128) s (y 0) (y 1)) := by
  refine (congrFun (Memref.read_squeeze_slice mOut _ (fun _ => rfl) squeezes_S1x2000x128_S2000x128 casts_slot f) y).trans ?_
  rw [eq_ix2 y]
  refine (shapeCast_1ab_ab_apply _ _ _ _).trans ?_
  refine congrArg (mOut.view.read (Elt F) f) (funext fun a => Fin.ext ?_)
  fin_cases a <;> simp [Rect.toLoadRect, Rect.unit, LoadRect.idx]

/-- A load of 400 rows of a slot reads that block of the slot's contents. -/
theorem load_blk (s : Fin 2) (k : ℕ) (hk : k < 5) (f : mIn.view.ty.Contents (Elt F)) {off : Fin 3 → ℕ}
    (inb : ∀ a, off a + S1x400x128.size a ≤ S2x2000x128.size a) (h : off = ![s.val, 400 * k, 0]) :
    mIn.view.readAt (Elt F) (Rect.unit (s := S2x2000x128) off S1x400x128.size inb).toLoadRect f = blkOf (slotRd s f) k := by
  subst h
  funext i
  unfold blkOf
  rw [slot_read]
  refine congrArg (mIn.view.read (Elt F) f) (funext fun a => Fin.ext ?_)
  have h0 : (i 0).val < 1 := (i 0).isLt
  have h1 : (i 1).val < 400 := (i 1).isLt
  fin_cases a
  · simp [Rect.toLoadRect, Rect.unit, LoadRect.idx]; omega
  · simp [Rect.toLoadRect, Rect.unit, LoadRect.idx]; omega
  · simp [Rect.toLoadRect, Rect.unit, LoadRect.idx]

/-- A store of 400 rows in a tile: those rows read the payload, the others what was there. -/
theorem store_blk (s : Fin 2) (k : ℕ) (f : mOut.view.ty.Contents (Elt F)) {off : Fin 3 → ℕ}
    (inb : ∀ a, off a + S1x400x128.size a ≤ S2x2000x128.size a) (h : off = ![s.val, 400 * k, 0])
    (z : FVec F S400x128 .f32) (y : S2000x128.Idx) :
    tileRd s (stBlk inb (shapeCast S1x400x128 z shapeCasts_S400x128_S1x400x128) f) y
      = if (y 0).val / 400 = k then z (ix2 (n0 := 400) (n1 := 128) ⟨(y 0).val % 400, Nat.mod_lt _ (by decide)⟩ (y 1))
        else tileRd s f y := by
  subst h
  rw [tile_read, tile_read]
  have h0 : (y 0).val < 2000 := (y 0).isLt
  by_cases hy : (y 0).val / 400 = k
  · rw [if_pos hy]
    have e : ix3 (n0 := 2) (n1 := 2000) (n2 := 128) s (y 0) (y 1)
        = (Rect.unit (s := S2x2000x128) ![s.val, 400 * k, 0] S1x400x128.size inb).emb
          (ix3 (n0 := 1) (n1 := 400) (n2 := 128) 0 ⟨(y 0).val % 400, Nat.mod_lt _ (by decide)⟩ (y 1)) := by
      funext a; apply Fin.ext
      fin_cases a
      · simp [Rect.unit, Rect.emb]
      · show (y 0).val = 400 * k + 1 * ((y 0).val % 400); omega
      · simp [Rect.unit, Rect.emb]
    rw [e]
    refine (View.read_slice_write_emb _ _ _ (Finset.mem_univ _)).trans ?_
    exact shapeCast_ab_1ab_apply _ _ _ _ _
  · rw [if_neg hy]
    refine View.read_slice_write_of_not_mem _ _ _ _ fun hm => hy ?_
    rw [Rect.map_emb_univ, Rect.mem_set_unit] at hm
    have h1 : 400 * k ≤ (y 0).val ∧ (y 0).val < 400 * k + 400 := hm 1
    omega

/-- Five stores make the whole tile. -/
theorem store_five (s : Fin 2) (f : mOut.view.ty.Contents (Elt F)) {o0 o1 o2 o3 o4 : Fin 3 → ℕ}
    (i0 : ∀ a, o0 a + S1x400x128.size a ≤ S2x2000x128.size a) (i1 : ∀ a, o1 a + S1x400x128.size a ≤ S2x2000x128.size a)
    (i2 : ∀ a, o2 a + S1x400x128.size a ≤ S2x2000x128.size a) (i3 : ∀ a, o3 a + S1x400x128.size a ≤ S2x2000x128.size a)
    (i4 : ∀ a, o4 a + S1x400x128.size a ≤ S2x2000x128.size a)
    (h0 : o0 = ![s.val, 0, 0]) (h1 : o1 = ![s.val, 400, 0]) (h2 : o2 = ![s.val, 800, 0]) (h3 : o3 = ![s.val, 1200, 0]) (h4 : o4 = ![s.val, 1600, 0])
    (z : ℕ → FVec F S400x128 .f32) :
    tileRd s (stBlk i4 (shapeCast S1x400x128 (z 4) shapeCasts_S400x128_S1x400x128)
      (stBlk i3 (shapeCast S1x400x128 (z 3) shapeCasts_S400x128_S1x400x128)
        (stBlk i2 (shapeCast S1x400x128 (z 2) shapeCasts_S400x128_S1x400x128)
          (stBlk i1 (shapeCast S1x400x128 (z 1) shapeCasts_S400x128_S1x400x128)
            (stBlk i0 (shapeCast S1x400x128 (z 0) shapeCasts_S400x128_S1x400x128) f))))) = cat5 z := by
  funext y
  have hy : (y 0).val < 2000 := (y 0).isLt
  rw [store_blk s 4 _ i4 h4, store_blk s 3 _ i3 h3, store_blk s 2 _ i2 h2, store_blk s 1 _ i1 h1, store_blk s 0 _ i0 h0]
  unfold cat5
  have hq : (y 0).val / 400 < 5 := by omega
  generalize (y 0).val / 400 = q at hq
  interval_cases q <;> simp

end Cert.KernelIdeal.Hand
-- ==== Proof.KernelIdeal.Part26.lean ====
module

public import Idealize.ShloMosaic.Lib.VecWindow
public import proofs.«01_k».proof.Proof.KernelIdeal.Names
public import proofs.«01_k».proof.Proof.KernelIdeal.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

abbrev BufOf (c : Dev nD) {sp : Space} {S : Shape} {e : EltTy} (M : Memref sig .tc sp S e) : Type := Buf (Elt F) (M.view.loc (c : Thread nD τ))

abbrev slotP (c : Dev nD) (s : Fin 2) (f : BufOf (F := F) c (slot s)) : sProp 𝕄 := (slot s).view.loc (c : Thread nD τ) ↦[(slot s).view.set]{fullShare} f
abbrev tileP (c : Dev nD) (s : Fin 2) (f : BufOf (F := F) c (tile s)) : sProp 𝕄 := (tile s).view.loc (c : Thread nD τ) ↦[(tile s).view.set]{fullShare} f

/-- A whole load of a buffer holding `x` reads `x`. -/
theorem load_unread {M : Memref sig .tc .vmem S8x128 .f32} (h : M.IsWhole) (x : Vec F S8x128 .f32) :
    View.readAt (Elt F) M.view (Rect.unit (s := S8x128) ![0, 0] S8x128.size inb_S8x128_S8x128_0_0).toLoadRect (h.unread x) = x :=
  (View.readAt_full M.view (h.unread x) inb_S8x128_S8x128_0_0).trans (h.read_unread x)

set_option maxRecDepth 65536 in
set_option maxHeartbeats 1000000 in
/-- The first phase's work on one chunk: the tile ends at the noisy scaled logits of the slot, the running sum five
blocks further, the running maximum four blocks further, and the fifth maximum is what is returned. -/
theorem part26_run (c : Dev nD) (t : Fin cfg0.N) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (v2 v3 : BitVec 32) (v8 : F .f32) (h8 : k0_cond8 (grid0.coords t) = 1#1)
    (fx : BufOf (F := F) c (slot (sl t.val))) (fe : BufOf (F := F) c (tile (sl t.val))) (m0 s0 : Vec F S8x128 .f32) (K : FVec F S8x128 .f32 → sProp 𝕄) :
    iprop(slotP c (sl t.val) fx ∗ tileP c (sl t.val) fe ∗ owns (c : Thread nD τ) arg6 fullShare m0 ∗ owns (c : Thread nD τ) arg7 fullShare s0
      ∗ (∀ v, iprop(slotP c (sl t.val) fx
          ∗ (∃ e : BufOf (F := F) c (tile (sl t.val)), tileP c (sl t.val) e ∗ ⌜tileRd (sl t.val) e = cat5 (zBlk v8 v2 (slotRd (sl t.val) fx))⌝)
          ∗ owns (c : Thread nD τ) arg6 fullShare (mAt (zBlk v8 v2 (slotRd (sl t.val) fx)) m0 4)
          ∗ owns (c : Thread nD τ) arg7 fullShare (sAt (zBlk v8 v2 (slotRd (sl t.val) fx)) m0 s0 5)
          ∗ ⌜v = mAt (zBlk v8 v2 (slotRd (sl t.val) fx)) m0 5⌝) -∗ K v))
      ⊢ wp frame (wpE (defs₀ (F := F)) Variants.none c none) Set.univ (k0_part26 (grid0.coords t) (Memref.whole main_v0) (Memref.isWhole_whole _) arg2 harg2 (Memref.whole main_v2) (Memref.isWhole_whole _) mIn (Memref.isWhole_whole _) mOut (Memref.isWhole_whole _) arg6 harg6 arg7 harg7 arg8 harg8 cc0_scratch5 cc0_scratch6 v2 v3 v8 h8) K := by
    haveI : Fact (k0_cond8 (grid0.coords t) = 1#1) := ⟨h8⟩
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨Hx, He, ⟨%f6, %hf6, H6⟩, ⟨%f7, %hf7, H7⟩, Hk⟩
    obtain rfl := harg6.eq_unread hf6
    obtain rfl := harg7.eq_unread hf7
    sl_exec
    sl_step
    have L (k : ℕ) (hk : k < 5) {off : Fin 3 → ℕ} (inb : ∀ a, off a + S1x400x128.size a ≤ S2x2000x128.size a) (h : off = ![(sl t.val).val, 400 * k, 0]) :=
      load_blk (F := F) (sl t.val) k hk fx inb h
    have x0 := L 0 (by decide) (k0_off18_inb (grid0.coords t) h8) (off18_eq t)
    have x1 := L 1 (by decide) (k0_off19_inb (grid0.coords t) h8) (off19_eq t)
    have x2 := L 2 (by decide) (k0_off20_inb (grid0.coords t) h8) (off20_eq t)
    have x3 := L 3 (by decide) (k0_off21_inb (grid0.coords t) h8) (off21_eq t)
    have x4 := L 4 (by decide) (k0_off22_inb (grid0.coords t) h8) (off22_eq t)
    have z0 : k0_pay54 v8 (part26_run.sl.v57 c t h8 fx) (part26_run.sl.v222 v2) (part26_run.sl.v224 v2) part26_run.sl.v123
        = zBlk v8 v2 (slotRd (sl t.val) fx) 0 := by
      unfold zBlk; rw [← x0]; exact z0_eq v8 v2 _
    have m1 : part26_run.sl.v480 c t arg6 harg6 v2 v8 h8 fx m0 = mAt (zBlk v8 v2 (slotRd (sl t.val) fx)) m0 1 := by
      refine (View.readCov_full _ _ _ _ _).trans ((shapeCast_self _ _).trans ?_)
      show _ = mN m0 (zBlk v8 v2 (slotRd (sl t.val) fx) 0)
      refine Eq.trans ?_ (congrArg (fun m => mN m _) (load_unread harg6 m0))
      rw [← z0]; rfl
    have m2 : part26_run.sl.v705 c t arg6 harg6 v2 v8 h8 fx m0 = mAt (zBlk v8 v2 (slotRd (sl t.val) fx)) m0 2 := by
      refine (View.readCov_full _ _ _ _ _).trans ((shapeCast_self _ _).trans ?_)
      show _ = mN (mAt (zBlk v8 v2 (slotRd (sl t.val) fx)) m0 1) (zBlk v8 v2 (slotRd (sl t.val) fx) 1)
      rw [← m1]
      unfold zBlk; rw [← x1]; rfl
    have m3 : part26_run.sl.v930 c t arg6 harg6 v2 v8 h8 fx m0 = mAt (zBlk v8 v2 (slotRd (sl t.val) fx)) m0 3 := by
      refine (View.readCov_full _ _ _ _ _).trans ((shapeCast_self _ _).trans ?_)
      show _ = mN (mAt (zBlk v8 v2 (slotRd (sl t.val) fx)) m0 2) (zBlk v8 v2 (slotRd (sl t.val) fx) 2)
      rw [← m2]
      unfold zBlk; rw [← x2]; rfl
    have m4 : part26_run.sl.v1155 c t arg6 harg6 v2 v8 h8 fx m0 = mAt (zBlk v8 v2 (slotRd (sl t.val) fx)) m0 4 := by
      refine (View.readCov_full _ _ _ _ _).trans ((shapeCast_self _ _).trans ?_)
      show _ = mN (mAt (zBlk v8 v2 (slotRd (sl t.val) fx)) m0 3) (zBlk v8 v2 (slotRd (sl t.val) fx) 3)
      rw [← m3]
      unfold zBlk; rw [← x3]; rfl
    have s1 : part26_run.sl.v488 c t arg6 harg6 arg7 harg7 v2 v8 h8 fx m0 s0 = sAt (zBlk v8 v2 (slotRd (sl t.val) fx)) m0 s0 1 := by
      refine (View.readCov_full _ _ _ _ _).trans ((shapeCast_self _ _).trans ?_)
      show _ = sN m0 s0 (zBlk v8 v2 (slotRd (sl t.val) fx) 0)
      refine Eq.trans ?_ (congrArg₂ (fun m s => sN m s _) (load_unread harg6 m0) (load_unread harg7 s0))
      rw [← z0]; rfl
    have s2 : part26_run.sl.v713 c t arg6 harg6 arg7 harg7 v2 v8 h8 fx m0 s0 = sAt (zBlk v8 v2 (slotRd (sl t.val) fx)) m0 s0 2 := by
      refine (View.readCov_full _ _ _ _ _).trans ((shapeCast_self _ _).trans ?_)
      show _ = sN (mAt (zBlk v8 v2 (slotRd (sl t.val) fx)) m0 1) (sAt (zBlk v8 v2 (slotRd (sl t.val) fx)) m0 s0 1) (zBlk v8 v2 (slotRd (sl t.val) fx) 1)
      rw [← m1, ← s1]
      unfold zBlk; rw [← x1]; rfl
    have s3 : part26_run.sl.v938 c t arg6 harg6 arg7 harg7 v2 v8 h8 fx m0 s0 = sAt (zBlk v8 v2 (slotRd (sl t.val) fx)) m0 s0 3 := by
      refine (View.readCov_full _ _ _ _ _).trans ((shapeCast_self _ _).trans ?_)
      show _ = sN (mAt (zBlk v8 v2 (slotRd (sl t.val) fx)) m0 2) (sAt (zBlk v8 v2 (slotRd (sl t.val) fx)) m0 s0 2) (zBlk v8 v2 (slotRd (sl t.val) fx) 2)
      rw [← m2, ← s2]
      unfold zBlk; rw [← x2]; rfl
    have s4 : part26_run.sl.v1163 c t arg6 harg6 arg7 harg7 v2 v8 h8 fx m0 s0 = sAt (zBlk v8 v2 (slotRd (sl t.val) fx)) m0 s0 4 := by
      refine (View.readCov_full _ _ _ _ _).trans ((shapeCast_self _ _).trans ?_)
      show _ = sN (mAt (zBlk v8 v2 (slotRd (sl t.val) fx)) m0 3) (sAt (zBlk v8 v2 (slotRd (sl t.val) fx)) m0 s0 3) (zBlk v8 v2 (slotRd (sl t.val) fx) 3)
      rw [← m3, ← s3]
      unfold zBlk; rw [← x3]; rfl
    iapply Hk
    isplitl [Hx]; · iexact Hx
    isplitl [He]
    · iexists part26_run.sl.He_w5 c t v2 v8 h8 fx fe
      isplitl [He]; · iexact He
      ipureintro
      refine Eq.trans ?_ (store_five (sl t.val) fe (k0_off18_inb (grid0.coords t) h8) (k0_off19_inb (grid0.coords t) h8) (k0_off20_inb (grid0.coords t) h8)
        (k0_off21_inb (grid0.coords t) h8) (k0_off22_inb (grid0.coords t) h8) (off18_eq t) (off19_eq t) (off20_eq t) (off21_eq t) (off22_eq t) (zBlk v8 v2 (slotRd (sl t.val) fx)))
      rw [← z0]; unfold zBlk; rw [← x1, ← x2, ← x3, ← x4]; rfl
    isplitl [H6]
    · iexists _
      isplitr [H6]
      swap
      · iexact H6
      ipureintro
      refine (View.read_writes_full _ _ _ _ _).trans ((shapeCast_self _ _).trans ?_)
      show _ = mN (mAt (zBlk v8 v2 (slotRd (sl t.val) fx)) m0 3) (zBlk v8 v2 (slotRd (sl t.val) fx) 3)
      rw [← m3]
      unfold zBlk; rw [← x3]; rfl
    isplitl [H7]
    · iexists _
      isplitr [H7]
      swap
      · iexact H7
      ipureintro
      refine (View.read_writes_full _ _ _ _ _).trans ((shapeCast_self _ _).trans ?_)
      show _ = sN (mAt (zBlk v8 v2 (slotRd (sl t.val) fx)) m0 4) (sAt (zBlk v8 v2 (slotRd (sl t.val) fx)) m0 s0 4) (zBlk v8 v2 (slotRd (sl t.val) fx) 4)
      rw [← m4, ← s4]
      unfold zBlk; rw [← x4]; rfl
    ipureintro
    show _ = mN (mAt (zBlk v8 v2 (slotRd (sl t.val) fx)) m0 4) (zBlk v8 v2 (slotRd (sl t.val) fx) 4)
    rw [← m4]
    unfold zBlk; rw [← x4]; rfl

/-- A scratch buffer held at `f`. -/
abbrev scP {sp : Space} {s : Shape} {ε : EltTy} (c : Dev nD) (M : Memref sig .tc sp s ε) (f : BufOf (F := F) c M) : sProp 𝕄 := M.view.loc (c : Thread nD τ) ↦[M.view.set]{fullShare} f

/-- The same with the buffers at any contents, in the form a longer run takes it. -/
theorem part26_cut (c : Dev nD) (t : Fin cfg0.N) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (v2 v3 : BitVec 32) (v8 : F .f32) (h8 : k0_cond8 (grid0.coords t) = 1#1)
    (fx : BufOf (F := F) c (slot (sl t.val))) (fe : BufOf (F := F) c (tile (sl t.val))) (f6 : BufOf (F := F) c arg6) (f7 : BufOf (F := F) c arg7) :
    iprop(slotP c (sl t.val) fx ∗ tileP c (sl t.val) fe ∗ scP c arg6 f6 ∗ scP c arg7 f7)
      ⊢ wp frame (wpE (defs₀ (F := F)) Variants.none c none) Set.univ (k0_part26 (grid0.coords t) (Memref.whole main_v0) (Memref.isWhole_whole _) arg2 harg2 (Memref.whole main_v2) (Memref.isWhole_whole _) mIn (Memref.isWhole_whole _) mOut (Memref.isWhole_whole _) arg6 harg6 arg7 harg7 arg8 harg8 cc0_scratch5 cc0_scratch6 v2 v3 v8 h8)
        (fun v => iprop(slotP c (sl t.val) fx
          ∗ ∃ (e : BufOf (F := F) c (tile (sl t.val))) (g6 : BufOf (F := F) c arg6) (g7 : BufOf (F := F) c arg7), tileP c (sl t.val) e ∗ scP c arg6 g6 ∗ scP c arg7 g7
            ∗ ⌜tileRd (sl t.val) e = cat5 (zBlk v8 v2 (slotRd (sl t.val) fx))
              ∧ arg7.view.read (Elt F) g7 = sAt (zBlk v8 v2 (slotRd (sl t.val) fx)) (arg6.view.read (Elt F) f6) (arg7.view.read (Elt F) f7) 5
              ∧ v = mAt (zBlk v8 v2 (slotRd (sl t.val) fx)) (arg6.view.read (Elt F) f6) 5⌝)) := by
  have h := part26_run c t arg2 harg2 arg6 harg6 arg7 harg7 arg8 harg8 v2 v3 v8 h8 fx fe (arg6.view.read (Elt F) f6) (arg7.view.read (Elt F) f7)
    (fun v => iprop(slotP c (sl t.val) fx
          ∗ ∃ (e : BufOf (F := F) c (tile (sl t.val))) (g6 : BufOf (F := F) c arg6) (g7 : BufOf (F := F) c arg7), tileP c (sl t.val) e ∗ scP c arg6 g6 ∗ scP c arg7 g7
            ∗ ⌜tileRd (sl t.val) e = cat5 (zBlk v8 v2 (slotRd (sl t.val) fx))
              ∧ arg7.view.read (Elt F) g7 = sAt (zBlk v8 v2 (slotRd (sl t.val) fx)) (arg6.view.read (Elt F) f6) (arg7.view.read (Elt F) f7) 5
              ∧ v = mAt (zBlk v8 v2 (slotRd (sl t.val) fx)) (arg6.view.read (Elt F) f6) 5⌝))
  refine BIBase.Entails.trans ?_ h
  iintro ⟨Hx, He, H6, H7⟩
  isplitl [Hx]; · iexact Hx
  isplitl [He]; · iexact He
  isplitl [H6]
  · unfold owns; iexists f6; isplitr; · ipureintro; rfl
    iexact H6
  isplitl [H7]
  · unfold owns; iexists f7; isplitr; · ipureintro; rfl
    iexact H7
  unfold owns
  iintro %v ⟨Hx, ⟨%e, He, %he⟩, ⟨%g6, %hg6, H6⟩, ⟨%g7, %hg7, H7⟩, %hv⟩
  isplitl [Hx]; · iexact Hx
  iexists e, g6, g7
  isplitl [He]; · iexact He
  isplitl [H6]; · iexact H6
  isplitl [H7]; · iexact H7
  ipureintro
  exact ⟨he, hg7, hv⟩

end Cert.KernelIdeal.Hand
-- ==== Proof.KernelIdeal.Atoms.lean ====
module

public import proofs.«01_k».proof.Proof.KernelIdeal.Part26
public import Idealize.ShloMosaic.Lib.WritesUnit

@[expose] public section

/-! The pieces the pipelined body works on, as resources: slots, tiles, chunks, and the copies in flight. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- A chunk of the logits, a chunk of the result. -/
abbrev chXP (c : Dev nD) (b : Fin 50) (f : BufOf (F := F) c (chX b)) : sProp 𝕄 := (chX b).view.loc (c : Thread nD τ) ↦[(chX b).view.set]{fullShare} f
abbrev chOP (c : Dev nD) (b : Fin 50) (f : BufOf (F := F) c (chO b)) : sProp 𝕄 := (chO b).view.loc (c : Thread nD τ) ↦[(chO b).view.set]{fullShare} f
/-- What a chunk holds. -/
def chXRd (b : Fin 50) (f : mX.view.ty.Contents (Elt F)) : Vec F S2000x128 .f32 := (chX b).view.read (Elt F) f
def chORd (b : Fin 50) (f : mO.view.ty.Contents (Elt F)) : Vec F S2000x128 .f32 := (chO b).view.read (Elt F) f

/-- A copy in flight from a chunk of the logits into a slot, delivering the slot at `f`, -/
abbrev flXP (c : Dev nD) (s : Fin 2) (b : Fin 50) (f : BufOf (F := F) c (slot s)) (g : BufOf (F := F) c (chX b)) : sProp 𝕄 :=
  Transfers.Flight countersEmb (c : Thread nD τ) (semI s) default ((slot s).view.amount (semI s)) iprop(slotP c s f ∗ chXP c b g)
/-- from a chunk of the result into a slot, -/
abbrev flOP (c : Dev nD) (s : Fin 2) (b : Fin 50) (f : BufOf (F := F) c (slot s)) (g : BufOf (F := F) c (chO b)) : sProp 𝕄 :=
  Transfers.Flight countersEmb (c : Thread nD τ) (semI s) default ((slot s).view.amount (semI s)) iprop(slotP c s f ∗ chOP c b g)
/-- and from a tile into a chunk of the result. -/
abbrev wrP (c : Dev nD) (s : Fin 2) (b : Fin 50) (g : BufOf (F := F) c (chO b)) (e : BufOf (F := F) c (tile s)) : sProp 𝕄 :=
  Transfers.Flight countersEmb (c : Thread nD τ) (semO s) default ((chO b).view.amount (semO s)) iprop(chOP c b g ∗ tileP c s e)

/-- Slot `s` free; tile `s` free. -/
def FS (c : Dev nD) (s : Fin 2) : sProp 𝕄 := iprop(semVal ((c : Thread nD τ), semI s) 0 ∗ ∃ f, slotP (F := F) c s f)
def FT (c : Dev nD) (s : Fin 2) : sProp 𝕄 := iprop(semVal ((c : Thread nD τ), semO s) 0 ∗ ∃ e, tileP (F := F) c s e)
/-- Chunk `b` of the logits `X`, at home. -/
def HX (c : Dev nD) (b : Fin 50) (X : Fin 50 → Vec F S2000x128 .f32) : sProp 𝕄 := iprop(∃ g, chXP c b g ∗ ⌜chXRd b g = X b⌝)
/-- Chunk `b` of the result at home, holding `Z`; holding anything. -/
def HO (c : Dev nD) (b : Fin 50) (Z : Vec F S2000x128 .f32) : sProp 𝕄 := iprop(∃ g, chOP c b g ∗ ⌜chORd b g = Z⌝)
def HA (c : Dev nD) (b : Fin 50) : sProp 𝕄 := iprop(∃ g, chOP (F := F) c b g)
/-- Chunk `b` of the logits on its way into slot `s`, -/
def RX (c : Dev nD) (s : Fin 2) (b : Fin 50) (X : Fin 50 → Vec F S2000x128 .f32) : sProp 𝕄 :=
  iprop(∃ f g, flXP c s b f g ∗ ⌜slotRd s f = X b⌝ ∗ ⌜chXRd b g = X b⌝)
/-- chunk `b` of the result, holding `Z`, on its way into slot `s`, -/
def RO (c : Dev nD) (s : Fin 2) (b : Fin 50) (Z : Vec F S2000x128 .f32) : sProp 𝕄 :=
  iprop(∃ f g, flOP c s b f g ∗ ⌜slotRd s f = Z⌝)
/-- tile `s` on its way into chunk `b` of the result, which then holds `Z`. -/
def WR (c : Dev nD) (s : Fin 2) (b : Fin 50) (Z : Vec F S2000x128 .f32) : sProp 𝕄 :=
  iprop(∃ g e, wrP c s b g e ∗ ⌜chORd b g = Z⌝)

theorem landX (s : Fin 2) (b : Fin 50) (f : mIn.view.ty.Contents (Elt F)) (g : mX.view.ty.Contents (Elt F)) :
    slotRd s ((slot s).view.writes (Elt F) f [⟨Rect.whole S2000x128, ReadAs.same.apply ((chX b).view.read (Elt F) g)⟩]) = chXRd b g :=
  View.read_writes_whole _ _ _
theorem landO (s : Fin 2) (b : Fin 50) (f : mIn.view.ty.Contents (Elt F)) (g : mO.view.ty.Contents (Elt F)) :
    slotRd s ((slot s).view.writes (Elt F) f [⟨Rect.whole S2000x128, ReadAs.same.apply ((chO b).view.read (Elt F) g)⟩]) = chORd b g :=
  View.read_writes_whole _ _ _
theorem landW (s : Fin 2) (b : Fin 50) (g : mO.view.ty.Contents (Elt F)) (e : mOut.view.ty.Contents (Elt F)) :
    chORd b ((chO b).view.writes (Elt F) g [⟨Rect.whole S2000x128, ReadAs.same.apply ((tile s).view.read (Elt F) e)⟩]) = tileRd s e :=
  View.read_writes_whole _ _ _

/-- The chunk a point works on, as the body computes it, -/
def vC (i : grid0.Coords) : BitVec 32 :=
  Scalar.select (Scalar.cmpi .sge (BitVec.ofNat 32 (i 0).val) 50#32) (Scalar.subi (BitVec.ofNat 32 (i 0).val) 50#32) (BitVec.ofNat 32 (i 0).val)
/-- the temperature as it is read, -/
def tempRd (x : Vec F S1 .i32) : F .f32 := k0_pay255 (x (ValueIdx.ix1 (n := 1) 0))
/-- and the noisy scaled logits of block `k` of the chunk a point works on. -/
def zC (t : Fin grid0.N) (x : Vec F S1 .i32) (X : Vec F S2000x128 .f32) : ℕ → FVec F S400x128 .f32 := zBlk (tempRd x) (vC (grid0.coords t)) X

theorem toRX (c : Dev nD) (s : Fin 2) (b : Fin 50) (X : Fin 50 → Vec F S2000x128 .f32) (f : BufOf (F := F) c (slot s)) (g : BufOf (F := F) c (chX b)) (h : chXRd b g = X b) :
    flXP c s b ((slot s).view.writes (Elt F) f [⟨Rect.whole S2000x128, ReadAs.same.apply ((chX b).view.read (Elt F) g)⟩]) g ⊢ RX c s b X := by
  unfold RX; iintro H; iexists _, _
  isplitl [H]; · iexact H
  isplitr <;> ipureintro
  · exact (landX s b f g).trans h
  · exact h
theorem toRO (c : Dev nD) (s : Fin 2) (b : Fin 50) (Z : Vec F S2000x128 .f32) (f : BufOf (F := F) c (slot s)) (g : BufOf (F := F) c (chO b)) (h : chORd b g = Z) :
    flOP c s b ((slot s).view.writes (Elt F) f [⟨Rect.whole S2000x128, ReadAs.same.apply ((chO b).view.read (Elt F) g)⟩]) g ⊢ RO c s b Z := by
  unfold RO; iintro H; iexists _, _
  isplitl [H]; · iexact H
  ipureintro; exact (landO s b f g).trans h
theorem toWR (c : Dev nD) (s : Fin 2) (b : Fin 50) (Z : Vec F S2000x128 .f32) (g : BufOf (F := F) c (chO b)) (e : BufOf (F := F) c (tile s)) (h : tileRd s e = Z) :
    wrP c s b ((chO b).view.writes (Elt F) g [⟨Rect.whole S2000x128, ReadAs.same.apply ((tile s).view.read (Elt F) e)⟩]) e ⊢ WR c s b Z := by
  unfold WR; iintro H; iexists _, _
  isplitl [H]; · iexact H
  ipureintro; exact (landW s b g e).trans h
theorem toFS (c : Dev nD) (s : Fin 2) (f : BufOf (F := F) c (slot s)) : iprop(semVal ((c : Thread nD τ), semI s) 0 ∗ slotP c s f) ⊢ FS c s := by
  unfold FS; iintro ⟨Hc, H⟩
  isplitl [Hc]; · iexact Hc
  iexists f; iexact H
theorem toFT (c : Dev nD) (s : Fin 2) (f : BufOf (F := F) c (tile s)) : iprop(semVal ((c : Thread nD τ), semO s) 0 ∗ tileP c s f) ⊢ FT c s := by
  unfold FT; iintro ⟨Hc, H⟩
  isplitl [Hc]; · iexact Hc
  iexists f; iexact H
theorem toHX (c : Dev nD) (b : Fin 50) (X : Fin 50 → Vec F S2000x128 .f32) (g : BufOf (F := F) c (chX b)) (h : chXRd b g = X b) : chXP c b g ⊢ HX c b X := by
  unfold HX; iintro H; iexists g
  isplitl [H]; · iexact H
  ipureintro; exact h
theorem toHO (c : Dev nD) (b : Fin 50) (Z : Vec F S2000x128 .f32) (g : BufOf (F := F) c (chO b)) (h : chORd b g = Z) : chOP c b g ⊢ HO c b Z := by
  unfold HO; iintro H; iexists g
  isplitl [H]; · iexact H
  ipureintro; exact h
theorem toHA (c : Dev nD) (b : Fin 50) (g : BufOf (F := F) c (chO b)) : chOP c b g ⊢ HA c b := by
  unfold HA; iintro H; iexists g; iexact H
theorem toOwns {sp : Space} {s : Shape} {ε : EltTy} (c : Dev nD) (M : Memref sig .tc sp s ε) (v : Vec F s ε) (f : BufOf (F := F) c M) (h : M.view.read (Elt F) f = v) :
    scP c M f ⊢ owns (c : Thread nD τ) M fullShare v := by
  unfold owns; iintro H; iexists f
  isplitr; · ipureintro; exact h
  iexact H
/-- A store of a whole scratch buffer read back. -/
theorem read_pay4 (M : Memref sig .tc .vmem S8x128 .f32) (g : M.view.ty.Contents (Elt F)) (v : FVec F S8x128 .f32) :
    M.view.read (Elt F) (M.view.writes (Elt F) g [⟨Rect.unit (s := S8x128) ![0, 0] ![8, 128] inb_S8x128_S8x128_0_0, k0_pay4 v⟩]) = v := by
  rw [View.read_writes_full]
  exact shapeCast_self _ _
theorem read_pay256 (M : Memref sig .tc .vmem S8x128 .f32) (g : M.view.ty.Contents (Elt F)) :
    M.view.read (Elt F) (M.view.writes (Elt F) g [⟨Rect.unit (s := S8x128) ![0, 0] S8x128.size inb_S8x128_S8x128_0_0, k0_pay256⟩]) = k0_pay256 :=
  View.read_writes_full _ _ _ _ _
theorem read_pay257 (M : Memref sig .tc .vmem S8x128 .f32) (g : M.view.ty.Contents (Elt F)) :
    M.view.read (Elt F) (M.view.writes (Elt F) g [⟨Rect.unit (s := S8x128) ![0, 0] S8x128.size inb_S8x128_S8x128_0_0, k0_pay257⟩]) = k0_pay257 :=
  View.read_writes_full _ _ _ _ _

/-- The temperature as the body loads it. -/
theorem temp_load (M : Memref sig .tc .smem S1 .i32) (h : M.IsWhole) (x : Vec F S1 .i32) (i) :
    View.readAt (Elt F) M.view (Rect.unit (s := S1) ![0] S1.size inb_S1_S1_0).toLoadRect (h.unread x) i = x (ValueIdx.ix1 (n := 1) 0) := by
  refine (congrFun (h.read_unread x) _).trans ?_
  refine congrArg x (funext fun a => ?_)
  match a with
  | 0 => exact Subsingleton.elim (α := Fin 1) _ _

/-- The two rows of the third scratch buffer, as the body loads them, -/
def row0 (M : Memref sig .tc .vmem S2x128 .f32) (f : M.view.ty.Contents (Elt F)) : Vec F S1x128 .f32 :=
  View.readAt (Elt F) M.view (Rect.unit (s := S2x128) ![0, 0] S1x128.size inb_S2x128_S1x128_0_0).toLoadRect f
def row1 (M : Memref sig .tc .vmem S2x128 .f32) (f : M.view.ty.Contents (Elt F)) : Vec F S1x128 .f32 :=
  View.readAt (Elt F) M.view (Rect.unit (s := S2x128) ![1, 0] S1x128.size inb_S2x128_S1x128_1_0).toLoadRect f
theorem row0_writes (M : Memref sig .tc .vmem S2x128 .f32) (f : M.view.ty.Contents (Elt F)) (a b : FVec F S1x128 .f32) :
    row0 M (M.view.writes (Elt F) f [⟨Rect.unit (s := S2x128) ![1, 0] S1x128.size inb_S2x128_S1x128_1_0, b⟩, ⟨Rect.unit (s := S2x128) ![0, 0] S1x128.size inb_S2x128_S1x128_0_0, a⟩]) = a := by
  funext i
  have hi : (i 0).val = 0 := Nat.lt_one_iff.mp (i 0).isLt
  refine (View.read_writes_cons_unit_of_not_mem M.view f inb_S2x128_S1x128_1_0 b _ _ rfl 0 (Or.inl ?_)).trans
    (View.read_writes_cons_unit_of_mem M.view f inb_S2x128_S1x128_0_0 a _ _ i rfl fun d => ?_)
  · show 0 + 1 * (i 0).val < 1
    omega
  · match d with
    | 0 => show 0 + 1 * (i 0).val = 0 + (i 0).val; omega
    | 1 => show 0 + 1 * (i 1).val = 0 + (i 1).val; omega
theorem row1_writes (M : Memref sig .tc .vmem S2x128 .f32) (f : M.view.ty.Contents (Elt F)) (b : FVec F S1x128 .f32) (L) :
    row1 M (M.view.writes (Elt F) f (⟨Rect.unit (s := S2x128) ![1, 0] S1x128.size inb_S2x128_S1x128_1_0, b⟩ :: L)) = b := by
  funext i
  refine View.read_writes_cons_unit_of_mem M.view f inb_S2x128_S1x128_1_0 b _ _ i rfl fun d => ?_
  match d with
  | 0 => show 1 + 1 * (i 0).val = 1 + (i 0).val; omega
  | 1 => show 0 + 1 * (i 1).val = 0 + (i 1).val; omega
/-- and the buffer holding the rows `r0`, `r1`. -/
def FIN (c : Dev nD) (M : Memref sig .tc .vmem S2x128 .f32) (r0 r1 : Vec F S1x128 .f32) : sProp 𝕄 :=
  iprop(∃ f : BufOf (F := F) c M, scP c M f ∗ ⌜row0 M f = r0⌝ ∗ ⌜row1 M f = r1⌝)

/-- The result's chunk made of the chunk `Z` in the second phase. -/
def yC (r0 r1 : Vec F S1x128 .f32) (Z : Vec F S2000x128 .f32) : Vec F S2000x128 .f32 := cat5 fun k => yBlk r0 r1 (blkOf Z k)

/-- What a run goes on to may be given any name meanwhile. -/
theorem hide {P R K T : sProp 𝕄} (h : ∀ Q, Q = P → iprop((Q -∗ K) ∗ R) ⊢ T) : iprop((P -∗ K) ∗ R) ⊢ T := h P rfl

end Cert.KernelIdeal.Hand
-- ==== Proof.KernelIdeal.Pieces.lean ====
module

public import proofs.«01_k».proof.Proof.KernelIdeal.Atoms

@[expose] public section

/-! The two double buffers and the two arrays in HBM, taken apart into slots, tiles and chunks and put together again. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## The elements under a slot, a tile, a chunk -/

abbrev halfSet (s : Fin 2) : Finset S2x2000x128.Idx := (Rect.unit (s := S2x2000x128) ![s.val, 0, 0] S1x2000x128.size (inb_slot s)).set
abbrev chunkSet (b : Fin 50) : Finset S100000x128.Idx := (Rect.unit (s := S100000x128) ![2000 * b.val, 0] S2000x128.size (inb_chunk b)).set

theorem slot_set (s : Fin 2) : (slot s).view.set = halfSet s := by
  simp only [slot, Memref.view_squeeze, View.set_reshape]; exact View.set_slice_whole _ _
theorem tile_set (s : Fin 2) : (tile s).view.set = halfSet s := by
  simp only [tile, Memref.view_squeeze, View.set_reshape]; exact View.set_slice_whole _ _
theorem chX_set (b : Fin 50) : (chX b).view.set = chunkSet b := View.set_slice_whole _ _
theorem chO_set (b : Fin 50) : (chO b).view.set = chunkSet b := View.set_slice_whole _ _

theorem mem_half (s : Fin 2) (i : S2x2000x128.Idx) : i ∈ halfSet s ↔ (i 0).val = s.val := by
  rw [Rect.mem_set_unit]
  have h1 : (i 1).val < 2000 := (i 1).isLt
  have h2 : (i 2).val < 128 := (i 2).isLt
  constructor
  · intro h
    have := h 0
    simp at this
    omega
  · intro h a
    fin_cases a <;> simp <;> omega
theorem mem_chunk (b : Fin 50) (i : S100000x128.Idx) : i ∈ chunkSet b ↔ (i 0).val / 2000 = b.val := by
  rw [Rect.mem_set_unit]
  have h1 : (i 1).val < 128 := (i 1).isLt
  constructor
  · intro h
    have := h 0
    simp at this
    omega
  · intro h a
    fin_cases a <;> simp <;> omega

theorem half_disjoint (s s' : Fin 2) (h : s ≠ s') : Disjoint (halfSet s) (halfSet s') :=
  Finset.disjoint_left.mpr fun i hi hi' => h (Fin.ext (((mem_half s i).mp hi).symm.trans ((mem_half s' i).mp hi')))
theorem chunk_disjoint (b b' : Fin 50) (h : b ≠ b') : Disjoint (chunkSet b) (chunkSet b') :=
  Finset.disjoint_left.mpr fun i hi hi' => h (Fin.ext (((mem_chunk b i).mp hi).symm.trans ((mem_chunk b' i).mp hi')))
theorem half_cover : (Finset.univ : Finset (Fin 2)).biUnion halfSet = Finset.univ :=
  Finset.eq_univ_iff_forall.mpr fun i => Finset.mem_biUnion.mpr ⟨⟨(i 0).val, (i 0).isLt⟩, Finset.mem_univ _, (mem_half _ i).mpr rfl⟩
theorem chunk_cover : (Finset.univ : Finset (Fin 50)).biUnion chunkSet = Finset.univ :=
  Finset.eq_univ_iff_forall.mpr fun i => Finset.mem_biUnion.mpr
    ⟨⟨(i 0).val / 2000, by have : (i 0).val < 100000 := (i 0).isLt; omega⟩, Finset.mem_univ _, (mem_chunk _ i).mpr rfl⟩

/-! ## Apart and together -/

section Apart

variable (c : Dev nD)

theorem slotP_eq (s : Fin 2) (f : BufOf (F := F) c (slot s)) : slotP c s f = (((c : Thread nD τ).loc cc0_scratch0) ↦[halfSet s]{fullShare} f : sProp 𝕄) := by
  unfold slotP; rw [slot_set]; rfl
theorem tileP_eq (s : Fin 2) (f : BufOf (F := F) c (tile s)) : tileP c s f = (((c : Thread nD τ).loc cc0_scratch1) ↦[halfSet s]{fullShare} f : sProp 𝕄) := by
  unfold tileP; rw [tile_set]; rfl
theorem chXP_eq (b : Fin 50) (f : BufOf (F := F) c (chX b)) : chXP c b f = (((c : Thread nD τ).loc main_v0) ↦[chunkSet b]{fullShare} f : sProp 𝕄) := by
  unfold chXP; rw [chX_set]; rfl
theorem chOP_eq (b : Fin 50) (f : BufOf (F := F) c (chO b)) : chOP c b f = (((c : Thread nD τ).loc main_v2) ↦[chunkSet b]{fullShare} f : sProp 𝕄) := by
  unfold chOP; rw [chO_set]; rfl

/-- The input buffer is its two slots, the output buffer its two tiles, each at some contents. -/
theorem slots_in : iprop(∃ f, ((c : Thread nD τ).loc cc0_scratch0) ↦{fullShare} f) ⊢ (iprop((∃ f, slotP (F := F) c 0 f) ∗ ∃ f, slotP (F := F) c 1 f) : sProp 𝕄) :=
  (Ring.pieces_split (U := Pipeline.UD sig nD τ) (ℓ := (c : Thread nD τ).loc cc0_scratch0) (q := fullShare) halfSet half_disjoint half_cover
    (fun i e => slotP c i e) (fun i e => slotP_eq c i e)).trans (Entails.of_eq (BI.bigSep_fin_two _))
theorem slots_out : (iprop((∃ f, slotP (F := F) c 0 f) ∗ ∃ f, slotP (F := F) c 1 f) : sProp 𝕄) ⊢ iprop(∃ f, ((c : Thread nD τ).loc cc0_scratch0) ↦{fullShare} f) := by
  iintro ⟨⟨%f, H0⟩, H1⟩
  iapply (Ring.pieces_join (U := Pipeline.UD sig nD τ) (ℓ := (c : Thread nD τ).loc cc0_scratch0) (q := fullShare) halfSet half_disjoint half_cover
    (fun i e => slotP c i e) (fun i e => slotP_eq c i e) f)
  iapply (show iprop((∃ f, slotP (F := F) c 0 f) ∗ ∃ f, slotP (F := F) c 1 f) ⊢ _ from
    Entails.of_eq (BI.bigSep_fin_two (fun s : Fin 2 => (iprop(∃ f, slotP (F := F) c s f) : sProp 𝕄))).symm)
  isplitl [H0]
  · iexists f; iexact H0
  iexact H1
theorem tiles_in : iprop(∃ f, ((c : Thread nD τ).loc cc0_scratch1) ↦{fullShare} f) ⊢ (iprop((∃ f, tileP (F := F) c 0 f) ∗ ∃ f, tileP (F := F) c 1 f) : sProp 𝕄) :=
  (Ring.pieces_split (U := Pipeline.UD sig nD τ) (ℓ := (c : Thread nD τ).loc cc0_scratch1) (q := fullShare) halfSet half_disjoint half_cover
    (fun i e => tileP c i e) (fun i e => tileP_eq c i e)).trans (Entails.of_eq (BI.bigSep_fin_two _))
theorem tiles_out : (iprop((∃ f, tileP (F := F) c 0 f) ∗ ∃ f, tileP (F := F) c 1 f) : sProp 𝕄) ⊢ iprop(∃ f, ((c : Thread nD τ).loc cc0_scratch1) ↦{fullShare} f) := by
  iintro ⟨⟨%f, H0⟩, H1⟩
  iapply (Ring.pieces_join (U := Pipeline.UD sig nD τ) (ℓ := (c : Thread nD τ).loc cc0_scratch1) (q := fullShare) halfSet half_disjoint half_cover
    (fun i e => tileP c i e) (fun i e => tileP_eq c i e) f)
  iapply (show iprop((∃ f, tileP (F := F) c 0 f) ∗ ∃ f, tileP (F := F) c 1 f) ⊢ _ from
    Entails.of_eq (BI.bigSep_fin_two (fun s : Fin 2 => (iprop(∃ f, tileP (F := F) c s f) : sProp 𝕄))).symm)
  isplitl [H0]
  · iexists f; iexact H0
  iexact H1

/-- The chunks of the logits `v`. -/
def XofV (v : mX.view.ty.Contents (Elt F)) : Fin 50 → Vec F S2000x128 .f32 := fun b => chXRd b v
/-- The result made of chunks. -/
def gather (Y : Fin 50 → Vec F S2000x128 .f32) : mO.view.ty.Contents (Elt F) := fun i : S100000x128.Idx =>
  Y ⟨(i 0).val / 2000, by have : (i 0).val < 100000 := (i 0).isLt; omega⟩
    (ValueIdx.ix2 (n0 := 2000) (n1 := 128) ⟨(i 0).val % 2000, Nat.mod_lt _ (by decide)⟩ (i 1))

theorem agree {sp : Space} {s : Shape} {e : EltTy} (v : View sig .tc sp s e) (f g : v.ty.Contents (Elt F)) (h : v.read (Elt F) f = v.read (Elt F) g) :
    ∀ i ∈ v.set, f i = g i := by
  intro i hi
  obtain ⟨x, -, rfl⟩ := Finset.mem_map.mp hi
  have := congrFun h x
  simpa [View.read] using this

theorem chORd_gather (Y : Fin 50 → Vec F S2000x128 .f32) (b : Fin 50) : chORd b (gather Y) = Y b := by
  funext i
  have h0 : (i 0).val < 2000 := (i 0).isLt
  have e0 : (2000 * b.val + 1 * (i 0).val) / 2000 = b.val := by omega
  have e1 : (2000 * b.val + 1 * (i 0).val) % 2000 = (i 0).val := by omega
  have key : ∀ (p : Fin 50) (q : S2000x128.Idx), p = b → q = i → Y p q = Y b i := by rintro _ _ rfl rfl; rfl
  refine key _ _ (Fin.ext e0) (funext fun a => ?_)
  match a with
  | 0 => exact Fin.ext e1
  | 1 => exact Fin.ext (show 0 + 1 * (i 1).val = (i 1).val by omega)

/-- A chunk holding what `v` holds there is held at `v`. -/
theorem HX_out (b : Fin 50) (v : mX.view.ty.Contents (Elt F)) (X : Fin 50 → Vec F S2000x128 .f32) (hv : chXRd b v = X b) : HX c b X ⊢ chXP c b v := by
  unfold HX
  iintro ⟨%g, H, %h⟩
  rw [show (chXP c b v : sProp 𝕄) = chXP c b g from pointsTo_congr (agree _ _ _ (hv.trans h.symm))]
  iexact H
theorem HO_out (b : Fin 50) (v : mO.view.ty.Contents (Elt F)) (Z : Vec F S2000x128 .f32) (hv : chORd b v = Z) : HO c b Z ⊢ chOP c b v := by
  unfold HO
  iintro ⟨%g, H, %h⟩
  rw [show (chOP c b v : sProp 𝕄) = chOP c b g from pointsTo_congr (agree _ _ _ (hv.trans h.symm))]
  iexact H

/-- The logits whole are their chunks at home; -/
theorem xs_in (v : mX.view.ty.Contents (Elt F)) :
    (((c : Thread nD τ).loc main_v0) ↦{fullShare} v : sProp 𝕄) ⊢ bigSep Finset.univ fun b => HX c b (XofV v) := by
  rw [Ring.pointsTo_blocks (U := Pipeline.UD sig nD τ) (ℓ := (c : Thread nD τ).loc main_v0) (q := fullShare) chunkSet chunk_disjoint chunk_cover v]
  refine BI.bigSep_mono (s := Finset.univ) fun b _ => ?_
  rw [← chXP_eq c b v]
  exact toHX c b (XofV v) v rfl
/-- and back. -/
theorem xs_out (v : mX.view.ty.Contents (Elt F)) :
    (bigSep Finset.univ fun b => HX c b (XofV v)) ⊢ (((c : Thread nD τ).loc main_v0) ↦{fullShare} v : sProp 𝕄) := by
  rw [Ring.pointsTo_blocks (U := Pipeline.UD sig nD τ) (ℓ := (c : Thread nD τ).loc main_v0) (q := fullShare) chunkSet chunk_disjoint chunk_cover v]
  refine BI.bigSep_mono (s := Finset.univ) fun b _ => ?_
  rw [← chXP_eq c b v]
  exact HX_out c b v (XofV v) rfl
/-- The result whole, at anything, is its chunks at home; -/
theorem os_in (v : mO.view.ty.Contents (Elt F)) :
    (((c : Thread nD τ).loc main_v2) ↦{fullShare} v : sProp 𝕄) ⊢ bigSep Finset.univ fun b => HA (F := F) c b := by
  rw [Ring.pointsTo_blocks (U := Pipeline.UD sig nD τ) (ℓ := (c : Thread nD τ).loc main_v2) (q := fullShare) chunkSet chunk_disjoint chunk_cover v]
  refine BI.bigSep_mono (s := Finset.univ) fun b _ => ?_
  rw [← chOP_eq c b v]
  exact toHA c b v
/-- its chunks holding `Y` are it whole, holding the chunks gathered. -/
theorem os_out (Y : Fin 50 → Vec F S2000x128 .f32) :
    (bigSep Finset.univ fun b => HO c b (Y b)) ⊢ (((c : Thread nD τ).loc main_v2) ↦{fullShare} gather Y : sProp 𝕄) := by
  rw [Ring.pointsTo_blocks (U := Pipeline.UD sig nD τ) (ℓ := (c : Thread nD τ).loc main_v2) (q := fullShare) chunkSet chunk_disjoint chunk_cover (gather Y)]
  refine BI.bigSep_mono (s := Finset.univ) fun b _ => ?_
  rw [← chOP_eq c b (gather Y)]
  exact HO_out c b (gather Y) (Y b) (chORd_gather Y b)

end Apart

end Cert.KernelIdeal.Hand
-- ==== Proof.KernelIdeal.Inv.lean ====
module

public import proofs.«01_k».proof.Proof.KernelIdeal.Pieces

@[expose] public section

/-! What the body finds before step `k` and leaves after it: where each slot, tile and chunk is, and what it holds. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## A family with one member taken out -/

/-- A member taken out of a family leaves nothing in its place; -/
theorem take (a : Fin 50) (P Q : Fin 50 → sProp 𝕄) (ha : Q a = iprop(emp)) (h : ∀ b, b ≠ a → Q b = P b) :
    bigSep Finset.univ P ⊢ iprop(P a ∗ bigSep Finset.univ Q) := by
  rw [BI.bigSep_univ_split a (Φ := P), BI.bigSep_univ_split a (Φ := Q), ha,
    BI.bigSep_congr (s := Finset.univ.erase a) (Φ := Q) (Ψ := P) fun b hb => h b (Finset.ne_of_mem_erase hb)]
  refine (show iprop(P a ∗ bigSep (Finset.univ.erase a) P) ⊢ iprop(P a ∗ emp ∗ bigSep (Finset.univ.erase a) P) from ?_)
  iintro ⟨H, H'⟩
  isplitl [H]; · iexact H
  isplitr; · iempintro
  iexact H'
/-- and put back it completes the family. -/
theorem give (a : Fin 50) (P Q : Fin 50 → sProp 𝕄) (ha : Q a = iprop(emp)) (h : ∀ b, b ≠ a → Q b = P b) :
    iprop(P a ∗ bigSep Finset.univ Q) ⊢ bigSep Finset.univ P := by
  rw [BI.bigSep_univ_split a (Φ := P), BI.bigSep_univ_split a (Φ := Q), ha,
    BI.bigSep_congr (s := Finset.univ.erase a) (Φ := Q) (Ψ := P) fun b hb => h b (Finset.ne_of_mem_erase hb)]
  refine (show iprop(P a ∗ emp ∗ bigSep (Finset.univ.erase a) P) ⊢ iprop(P a ∗ bigSep (Finset.univ.erase a) P) from ?_)
  iintro ⟨H, -, H'⟩
  isplitl [H]; · iexact H
  iexact H'

/-! ## The values -/

section Values

/-- The grid point of number `n`. -/
def pt (n : ℕ) : Fin grid0.N := ⟨n % 100, by rw [N_0]; exact Nat.mod_lt _ (by decide)⟩
theorem pt_val (t : Fin grid0.N) : pt t.val = t := by
  have : t.val < 100 := lt_of_lt_of_eq t.isLt N_0
  exact Fin.ext (Nat.mod_eq_of_lt this)

variable (x : Vec F S1 .i32) (X : Fin 50 → Vec F S2000x128 .f32)

/-- Chunk `b` of the noisy scaled logits, -/
def Zv (b : Fin 50) : Vec F S2000x128 .f32 := cat5 (zC (pt b.val) x (X b))
/-- the running maximum and the running sum after `k` chunks, -/
def Mv : ℕ → Vec F S8x128 .f32
  | 0 => k0_pay256
  | k + 1 => mAt (zC (pt k) x (X (ck k))) (Mv k) 5
def Sv : ℕ → Vec F S8x128 .f32
  | 0 => k0_pay257
  | k + 1 => sAt (zC (pt k) x (X (ck k))) (Mv x X k) (Sv k) 5
/-- the final maximum and the reciprocal of the final sum, -/
def R0v : Vec F S1x128 .f32 := k0_pay2 (Mv x X 50)
def R1v : Vec F S1x128 .f32 := k0_pay3 (Mv x X 50) (Sv x X 50)
/-- and chunk `b` of the result. -/
def Yv (b : Fin 50) : Vec F S2000x128 .f32 := yC (R0v x X) (R1v x X) (Zv x X b)
/-- What step `j` writes. -/
def Wv (j : ℕ) : Vec F S2000x128 .f32 := if j < 50 then Zv x X (ck j) else Yv x X (ck j)

/-! ## The pieces before step `k` -/

variable (c : Dev nD) (k : ℕ)

/-- Chunk `b` of the logits: at home unless it is being read. -/
def xSt (b : Fin 50) : sProp 𝕄 := if 1 ≤ k ∧ k ≤ 49 ∧ b.val = k then iprop(emp) else HX c b X
/-- Chunk `b` of the result: away while it is written or read; else at home, holding first anything, then the noisy scaled
    logits, then the result. -/
def oSt (b : Fin 50) : sProp 𝕄 :=
  if (1 ≤ k ∧ k ≤ 99 ∧ (b.val = (k + 49) % 50 ∨ (2 ≤ k ∧ b.val = (k + 48) % 50) ∨ (50 ≤ k ∧ b.val + 50 = k))) then iprop(emp)
  else if k ≤ b.val then HA c b
  else if k ≤ b.val + 50 then HO c b (Zv x X b)
  else HO c b (Yv x X b)
/-- The input buffer: the next chunk on its way into one slot, the other slot free. -/
def rdSt : sProp 𝕄 :=
  if 1 ≤ k ∧ k ≤ 49 then iprop(RX c (sl k) (ck k) X ∗ FS c (sl (k + 1)))
  else if 50 ≤ k ∧ k ≤ 99 then iprop(RO c (sl k) (ck k) (Zv x X (ck k)) ∗ FS c (sl (k + 1)))
  else iprop(FS c (sl k) ∗ FS c (sl (k + 1)))
/-- The output buffer: the chunks of the last two steps on their way out of the two tiles. -/
def wrSt : sProp 𝕄 :=
  if k = 1 then iprop(FT c (sl k) ∗ WR c (sl (k + 1)) (ck (k + 49)) (Wv x X 0))
  else if 2 ≤ k ∧ k ≤ 99 then iprop(WR c (sl k) (ck (k + 48)) (Wv x X (k - 2)) ∗ WR c (sl (k + 1)) (ck (k + 49)) (Wv x X (k - 1)))
  else iprop(FT c (sl k) ∗ FT c (sl (k + 1)))
/-- The running maximum and sum, -/
def msSt : sProp 𝕄 :=
  if k = 0 then iprop((∃ m, owns (c : Thread nD τ) (Memref.whole cc0_scratch2) fullShare m) ∗ ∃ s, owns (c : Thread nD τ) (Memref.whole cc0_scratch3) fullShare s)
  else iprop(owns (c : Thread nD τ) (Memref.whole cc0_scratch2) fullShare (Mv x X (min k 50)) ∗ owns (c : Thread nD τ) (Memref.whole cc0_scratch3) fullShare (Sv x X (min k 50)))
/-- and the final two rows. -/
def finSt : sProp 𝕄 :=
  if k ≤ 50 then iprop(∃ f, scP (F := F) c (Memref.whole cc0_scratch4) f)
  else FIN c (Memref.whole cc0_scratch4) (R0v x X) (R1v x X)

/-- Everything before step `k`. -/
def Inv : sProp 𝕄 :=
  iprop(msSt x X c k ∗ finSt x X c k ∗ rdSt x X c k ∗ wrSt x X c k ∗ (bigSep Finset.univ fun b => xSt X c k b) ∗ bigSep Finset.univ fun b => oSt x X c k b)

end Values

theorem sl_two (n : ℕ) : sl (n + 2) = sl n := Fin.ext (by simp [sl])
theorem ck_fifty (n : ℕ) : ck (n + 50) = ck n := Fin.ext (by simp [ck])
theorem ne_val {n : ℕ} {b : Fin 50} (h : b ≠ ck n) : b.val ≠ n % 50 := fun e => h (Fin.ext e)
theorem ck_val (n : ℕ) : (ck n).val = n % 50 := rfl

/-! ## The chunks of the logits, step by step -/

section Steps

variable (x : Vec F S1 .i32) (X : Fin 50 → Vec F S2000x128 .f32) (c : Dev nD)

theorem xs_zero : (bigSep Finset.univ fun b => xSt X c 0 b : sProp 𝕄) ⊢ iprop(HX c (ck 0) X ∗ HX c (ck 1) X ∗ (HX c (ck 0) X -∗ bigSep Finset.univ fun b => xSt X c 1 b)) := by
  have e1 : xSt X c 0 (ck 1) = HX c (ck 1) X := by simp [xSt]
  have e2 : xSt X c 1 (ck 0) = HX c (ck 0) X := by simp [xSt, ck]
  have h1 := take (F := F) (ck 1) (fun b => xSt X c 0 b) (fun b => xSt X c 1 b) (by simp [xSt, ck]) (fun b hb => by
    have := ne_val hb
    simp only [xSt]; split_ifs <;> first | rfl | (exfalso; omega))
  have h2 := take (F := F) (ck 0) (fun b => xSt X c 1 b) (Function.update (fun b => xSt X c 1 b) (ck 0) iprop(emp)) (Function.update_self ..) (fun b hb => Function.update_of_ne hb ..)
  have h3 := give (F := F) (ck 0) (fun b => xSt X c 1 b) (Function.update (fun b => xSt X c 1 b) (ck 0) iprop(emp)) (Function.update_self ..) (fun b hb => Function.update_of_ne hb ..)
  rw [e1] at h1; rw [e2] at h2 h3
  iintro H
  ihave H := h1 $$ H
  icases H with ⟨Ha, H⟩
  ihave H := h2 $$ H
  icases H with ⟨Hb, H⟩
  isplitl [Hb]; · iexact Hb
  isplitl [Ha]; · iexact Ha
  iintro Hb
  iapply h3
  isplitl [Hb]; · iexact Hb
  iexact H

theorem xs_mid (t : ℕ) (ht : 1 ≤ t ∧ t < 49) : (bigSep Finset.univ fun b => xSt X c t b : sProp 𝕄) ⊢ iprop(HX c (ck (t + 1)) X ∗ (HX c (ck t) X -∗ bigSep Finset.univ fun b => xSt X c (t + 1) b)) := by
  have e1 : xSt X c t (ck (t + 1)) = HX c (ck (t + 1)) X := if_neg (by rw [ck_val]; omega)
  have e2 : xSt X c (t + 1) (ck t) = HX c (ck t) X := if_neg (by rw [ck_val]; omega)
  have h1 := take (F := F) (ck (t + 1)) (fun b => xSt X c t b) (Function.update (fun b => xSt X c t b) (ck (t + 1)) iprop(emp)) (Function.update_self ..) (fun b hb => Function.update_of_ne hb ..)
  have h3 := give (F := F) (ck t) (fun b => xSt X c (t + 1) b) (Function.update (fun b => xSt X c t b) (ck (t + 1)) iprop(emp))
    (by rw [Function.update_of_ne (fun e => by have := congrArg Fin.val e; simp only [ck_val] at this; omega)]
        exact if_pos (by rw [ck_val]; omega))
    (fun b hb => by
      have := ne_val hb
      by_cases e : b = ck (t + 1)
      · subst e; rw [Function.update_self]; exact (if_pos (by rw [ck_val]; omega)).symm
      · have := ne_val e
        rw [Function.update_of_ne e]
        simp only [xSt]; split_ifs <;> first | rfl | (exfalso; omega))
  rw [e1] at h1; rw [e2] at h3
  iintro H
  ihave H := h1 $$ H
  icases H with ⟨Ha, H⟩
  isplitl [Ha]; · iexact Ha
  iintro Hb
  iapply h3
  isplitl [Hb]; · iexact Hb
  iexact H

theorem xs_last : (bigSep Finset.univ fun b => xSt X c 49 b : sProp 𝕄) ⊢ iprop(HX c (ck 49) X -∗ bigSep Finset.univ fun b => xSt X c (49 + 1) b) := by
  have e2 : xSt X c 50 (ck 49) = HX c (ck 49) X := if_neg (by omega)
  have h3 := give (F := F) (ck 49) (fun b => xSt X c 50 b) (fun b => xSt X c 49 b)
    (if_pos (by rw [ck_val]; omega))
    (fun b hb => by
      have := ne_val hb
      simp only [xSt]; split_ifs <;> first | rfl | (exfalso; omega))
  rw [e2] at h3
  iintro H Hb
  iapply h3
  isplitl [Hb]; · iexact Hb
  iexact H

theorem xs_far (t : ℕ) (ht : 50 ≤ t) : (fun b => xSt X c (t + 1) b : Fin 50 → sProp 𝕄) = fun b => xSt X c t b := by
  funext b
  have := b.isLt
  simp only [xSt]; split_ifs <;> first | rfl | (exfalso; omega)

/-! ## The chunks of the result, step by step -/

theorem os_start (t : ℕ) (ht : t < 2) : (bigSep Finset.univ fun b => oSt x X c t b : sProp 𝕄) ⊢ iprop(HA c (ck t) ∗ bigSep Finset.univ fun b => oSt x X c (t + 1) b) := by
  have e1 : oSt x X c t (ck t) = HA c (ck t) := by
    have hv := ck_val t
    simp only [oSt]; split_ifs <;> first | rfl | (exfalso; omega)
  have h1 := take (F := F) (ck t) (fun b => oSt x X c t b) (fun b => oSt x X c (t + 1) b)
    (if_pos (by rw [ck_val]; omega))
    (fun b hb => by
      have := ne_val hb
      have := b.isLt
      simp only [oSt]; split_ifs <;> first | rfl | (exfalso; omega))
  rw [e1] at h1
  exact h1

/-- What step `j`'s chunk holds once it is home. -/
theorem oSt_back (t : ℕ) (ht : 2 ≤ t ∧ t ≤ 99) : oSt x X c (t + 1) (ck (t + 48)) = HO c (ck (t + 48)) (Wv x X (t - 2)) := by
  have e : ck (t - 2) = ck (t + 48) := Fin.ext (by simp only [ck_val]; omega)
  have hv := ck_val (t + 48)
  simp only [oSt, Wv, e]; split_ifs <;> first | rfl | (exfalso; omega)
theorem oSt_next (t : ℕ) (ht : 49 ≤ t ∧ t < 99) : oSt x X c t (ck (t + 1)) = HO c (ck (t + 1)) (Zv x X (ck (t + 1))) := by
  have hv := ck_val (t + 1)
  simp only [oSt]; split_ifs <;> first | rfl | (exfalso; omega)

theorem os_low (t : ℕ) (ht : 2 ≤ t ∧ t < 49) : (bigSep Finset.univ fun b => oSt x X c t b : sProp 𝕄)
    ⊢ iprop(HA c (ck t) ∗ (HO c (ck (t + 48)) (Wv x X (t - 2)) -∗ bigSep Finset.univ fun b => oSt x X c (t + 1) b)) := by
  have e1 : oSt x X c t (ck t) = HA c (ck t) := by
    have hv := ck_val t
    simp only [oSt]; split_ifs <;> first | rfl | (exfalso; omega)
  have e2 := oSt_back x X c t (by omega)
  have h1 := take (F := F) (ck t) (fun b => oSt x X c t b) (Function.update (fun b => oSt x X c t b) (ck t) iprop(emp)) (Function.update_self ..) (fun b hb => Function.update_of_ne hb ..)
  have h3 := give (F := F) (ck (t + 48)) (fun b => oSt x X c (t + 1) b) (Function.update (fun b => oSt x X c t b) (ck t) iprop(emp))
    (by rw [Function.update_of_ne (fun e => by have := congrArg Fin.val e; simp only [ck_val] at this; omega)]
        exact if_pos (by rw [ck_val]; omega))
    (fun b hb => by
      have := ne_val hb
      have := b.isLt
      by_cases e : b = ck t
      · subst e; rw [Function.update_self]; exact (if_pos (by rw [ck_val]; omega)).symm
      · have := ne_val e
        rw [Function.update_of_ne e]
        simp only [oSt]; split_ifs <;> first | rfl | (exfalso; omega))
  rw [e1] at h1; rw [e2] at h3
  iintro H
  ihave H := h1 $$ H
  icases H with ⟨Ha, H⟩
  isplitl [Ha]; · iexact Ha
  iintro Hb
  iapply h3
  isplitl [Hb]; · iexact Hb
  iexact H

theorem os_turn : (bigSep Finset.univ fun b => oSt x X c 49 b : sProp 𝕄)
    ⊢ iprop(HA c (ck 49) ∗ HO c (ck (49 + 1)) (Zv x X (ck (49 + 1))) ∗ (HO c (ck (49 + 48)) (Wv x X (49 - 2)) -∗ bigSep Finset.univ fun b => oSt x X c (49 + 1) b)) := by
  have e1 : oSt x X c 49 (ck 49) = HA c (ck 49) := by
    simp only [oSt, ck_val]; split_ifs <;> first | rfl | (exfalso; omega)
  have e2 := oSt_back x X c 49 (by omega)
  have e3 := oSt_next x X c 49 (by omega)
  have hne : ck (49 + 1) ≠ ck 49 := by decide
  have h1 := take (F := F) (ck 49) (fun b => oSt x X c 49 b) (Function.update (fun b => oSt x X c 49 b) (ck 49) iprop(emp)) (Function.update_self ..) (fun b hb => Function.update_of_ne hb ..)
  have h2 := take (F := F) (ck (49 + 1)) (Function.update (fun b => oSt x X c 49 b) (ck 49) iprop(emp))
    (Function.update (Function.update (fun b => oSt x X c 49 b) (ck 49) iprop(emp)) (ck (49 + 1)) iprop(emp)) (Function.update_self ..) (fun b hb => Function.update_of_ne hb ..)
  have h3 := give (F := F) (ck (49 + 48)) (fun b => oSt x X c (49 + 1) b)
    (Function.update (Function.update (fun b => oSt x X c 49 b) (ck 49) iprop(emp)) (ck (49 + 1)) iprop(emp))
    (by rw [Function.update_of_ne (by decide), Function.update_of_ne (by decide)]
        exact if_pos (by rw [ck_val]; omega))
    (fun b hb => by
      have := ne_val hb
      have := b.isLt
      by_cases e : b = ck (49 + 1)
      · subst e; rw [Function.update_self]; exact (if_pos (by rw [ck_val]; omega)).symm
      · have := ne_val e
        rw [Function.update_of_ne e]
        by_cases e : b = ck 49
        · subst e; rw [Function.update_self]; exact (if_pos (by rw [ck_val]; omega)).symm
        · have := ne_val e
          rw [Function.update_of_ne e]
          simp only [oSt]; split_ifs <;> first | rfl | (exfalso; omega))
  rw [e1] at h1; rw [Function.update_of_ne hne, e3] at h2; rw [e2] at h3
  iintro H
  ihave H := h1 $$ H
  icases H with ⟨Ha, H⟩
  ihave H := h2 $$ H
  icases H with ⟨Hc, H⟩
  isplitl [Ha]; · iexact Ha
  isplitl [Hc]; · iexact Hc
  iintro Hb
  iapply h3
  isplitl [Hb]; · iexact Hb
  iexact H

theorem os_high (t : ℕ) (ht : 50 ≤ t ∧ t < 99) : (bigSep Finset.univ fun b => oSt x X c t b : sProp 𝕄)
    ⊢ iprop(HO c (ck (t + 1)) (Zv x X (ck (t + 1))) ∗ (HO c (ck (t + 48)) (Wv x X (t - 2)) -∗ bigSep Finset.univ fun b => oSt x X c (t + 1) b)) := by
  have e1 := oSt_next x X c t (by omega)
  have e2 := oSt_back x X c t (by omega)
  have h1 := take (F := F) (ck (t + 1)) (fun b => oSt x X c t b) (Function.update (fun b => oSt x X c t b) (ck (t + 1)) iprop(emp)) (Function.update_self ..) (fun b hb => Function.update_of_ne hb ..)
  have h3 := give (F := F) (ck (t + 48)) (fun b => oSt x X c (t + 1) b) (Function.update (fun b => oSt x X c t b) (ck (t + 1)) iprop(emp))
    (by rw [Function.update_of_ne (fun e => by have := congrArg Fin.val e; simp only [ck_val] at this; omega)]
        exact if_pos (by rw [ck_val]; omega))
    (fun b hb => by
      have := ne_val hb
      have := b.isLt
      by_cases e : b = ck (t + 1)
      · subst e; rw [Function.update_self]; exact (if_pos (by rw [ck_val]; omega)).symm
      · have := ne_val e
        rw [Function.update_of_ne e]
        simp only [oSt]; split_ifs <;> first | rfl | (exfalso; omega))
  rw [e1] at h1; rw [e2] at h3
  iintro H
  ihave H := h1 $$ H
  icases H with ⟨Ha, H⟩
  isplitl [Ha]; · iexact Ha
  iintro Hb
  iapply h3
  isplitl [Hb]; · iexact Hb
  iexact H

/-- The last step brings three chunks home. -/
theorem os_end : iprop((bigSep Finset.univ fun b => oSt x X c 99 b) ∗ HO c (ck 99) (Yv x X (ck 99)) ∗ HO c (ck (99 + 48)) (Wv x X (99 - 2)) ∗ HO c (ck (99 + 49)) (Wv x X (99 - 1)))
    ⊢ (bigSep Finset.univ fun b => oSt x X c (99 + 1) b : sProp 𝕄) := by
  have e1 : oSt x X c (99 + 1) (ck 99) = HO c (ck 99) (Yv x X (ck 99)) := by
    simp only [oSt, ck_val]; split_ifs <;> first | rfl | (exfalso; omega)
  have e2 := oSt_back x X c 99 (by omega)
  have e3 : oSt x X c (99 + 1) (ck (99 + 49)) = HO c (ck (99 + 49)) (Wv x X (99 - 1)) := by
    have e : ck (99 - 1) = ck (99 + 49) := by decide
    have hv := ck_val (99 + 49)
    simp only [oSt, Wv, e]; split_ifs <;> first | rfl | (exfalso; omega)
  let P3 : Fin 50 → sProp 𝕄 := fun b => oSt x X c (99 + 1) b
  let P2 := Function.update P3 (ck 99) iprop(emp)
  let P1 := Function.update P2 (ck (99 + 48)) iprop(emp)
  have h1 := give (F := F) (ck 99) P3 P2 (Function.update_self ..) (fun b hb => Function.update_of_ne hb ..)
  have h2 := give (F := F) (ck (99 + 48)) P2 P1 (Function.update_self ..) (fun b hb => Function.update_of_ne hb ..)
  have h3 := give (F := F) (ck (99 + 49)) P1 (fun b => oSt x X c 99 b)
    (if_pos (by rw [ck_val]; omega))
    (fun b hb => by
      have := ne_val hb
      have := b.isLt
      by_cases e : b = ck (99 + 48)
      · subst e; rw [show P1 (ck (99 + 48)) = iprop(emp) from Function.update_self ..]; exact if_pos (by rw [ck_val]; omega)
      · have := ne_val e
        rw [show P1 b = P2 b from Function.update_of_ne e ..]
        by_cases e : b = ck 99
        · subst e; rw [show P2 (ck 99) = iprop(emp) from Function.update_self ..]; exact if_pos (by rw [ck_val]; omega)
        · have := ne_val e
          rw [show P2 b = P3 b from Function.update_of_ne e ..]
          simp only [P3, oSt]; split_ifs <;> first | rfl | (exfalso; omega))
  rw [show P3 (ck 99) = _ from e1] at h1
  rw [show P2 (ck (99 + 48)) = _ from (Function.update_of_ne (by decide) ..).trans e2] at h2
  rw [show P1 (ck (99 + 49)) = _ from (Function.update_of_ne (by decide) ..).trans ((Function.update_of_ne (by decide) ..).trans e3)] at h3
  iintro ⟨H, Ha, Hb, Hc⟩
  iapply h1
  isplitl [Ha]; · iexact Ha
  iapply h2
  isplitl [Hb]; · iexact Hb
  iapply h3
  isplitl [Hc]; · iexact Hc
  iexact H

end Steps

end Cert.KernelIdeal.Hand
-- ==== Proof.KernelIdeal.Kit.lean ====
module

public import proofs.«01_k».proof.Proof.KernelIdeal.Inv

@[expose] public section

/-! The set-up of the launch: the program around its one region, the arrays as the region finds them, the cells. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The buffers of core `c` when the region is entered: after the host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its first host operations, the region, its last host operation. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The last host operation touches buffers the region gives back, allocates nothing, writes no array of the pipeline. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w
  simp only [StableHlo.unary_writes, Finset.mem_singleton]
  exact StableHlo.devRef_ne_of_ne (by decide)

/-- A buffer the first host operations do not write is found as launched, -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1⟩))

/-- The temperature's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The temperature and the logits' chunks as the region finds them. -/
def tmp (c : Dev nD) : Vec F S1 .i32 := fun i => (V m c main_v1 : S1.Idx → Elt F .i32) i
def xch (c : Dev nD) : Fin 50 → Vec F S2000x128 .f32 := XofV (V m c main_v0)
theorem iblk_eq (c : Dev nD) (t : Fin cfg0.N) : iblk m c 0 t = tmp m c := by
  funext i
  refine congrArg (V m c main_v1 : S1.Idx → Elt F .i32) (funext fun a => ?_)
  match a with
  | 0 => exact Subsingleton.elim (α := Fin 1) _ _

/-- The body's own semaphore cells. -/
abbrev osem0 : Fin 4 → SemLoc sig := fun j => (![SemLoc.dma 1, SemLoc.dma 2, SemLoc.dma 3, SemLoc.dma 4] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semI 0) 0 ∗ semVal ((c : Thread nD τ), semI 1) 0 ∗ semVal ((c : Thread nD τ), semO 0) 0 ∗ semVal ((c : Thread nD τ), semO 1) 0) := by
  rw [Pipeline.ownSems0_eq_of_list c osem0 [0, 1, 2, 3] (by decide) (by decide), semI_0, semI_1, semO_0, semO_1]; rfl
/-- The logits, which the body reads by its own copies, and the result, which it writes by them. -/
def H0 : Finset (Ref sig .tc) := {main_v0}
def R0 : Finset (Ref sig .tc) := {main_v2}
theorem H0_sub : H0 ⊆ Pipeline.restRefs sig spec0 := by decide
theorem R0_sub : R0 ⊆ Pipeline.restRefs sig spec0 \ H0 := by decide

/-- The result the region leaves. -/
def Gv (c : Dev nD) : mO.view.ty.Contents (Elt F) := gather (Yv (tmp m c) (xch m c))
/-- The buffers the region leaves: the result, the others as found. -/
def G (c : Dev nD) (b : Ref sig .tc) : Buf (Elt F) ((c : Thread nD τ).loc b) :=
  if h : b = main_v2 then h ▸ (Gv m c : Buf (Elt F) ((c : Thread nD τ).loc main_v2)) else V m c b
theorem G_v2 (c : Dev nD) : G m c main_v2 = Gv m c := by unfold G; rw [dif_pos rfl]

/-- What the launch hands the region and takes back: the scratch, the cells, the logits, the result at `B`. -/
theorem PhiV_eq (c : Dev nD) (B : (c : Dev nD) → (b : Ref sig .tc) → Buf (Elt F) ((c : Thread nD τ).loc b)) :
    (Pipeline.ΦDRV osem0 spec0 H0 R0 (V m) B c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f))
        ∗ (semVal ((c : Thread nD τ), semI 0) 0 ∗ semVal ((c : Thread nD τ), semI 1) 0 ∗ semVal ((c : Thread nD τ), semO 0) 0 ∗ semVal ((c : Thread nD τ), semO 1) 0)
        ∗ (((c : Thread nD τ).loc main_v0) ↦{fullShare} V m c main_v0) ∗ (((c : Thread nD τ).loc main_v2) ↦{fullShare} B c main_v2)) := by
  unfold Pipeline.ΦDRV
  rw [scopedRest0_eq, ownSems00_eq, BI.bigSep_eq_bigSepL_of_eq (S := H0) [main_v0] (by decide) (by decide), BI.bigSep_eq_bigSepL_of_eq (S := R0) [main_v2] (by decide) (by decide)]
  rfl

end Cert.KernelIdeal.Hand
-- ==== Proof.KernelIdeal.RunA.lean ====
module

public import proofs.«01_k».proof.Proof.KernelIdeal.Atoms

@[expose] public section

/-! The body at point 0: the copies start and the running maximum and sum are set. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at point 0: it sets the running maximum and sum, starts the copies of the first two chunks, works on the
first and starts copying its tile out. -/
theorem runA (c : Dev nD) (t : Fin cfg0.N) (ht : t.val = 0) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (X : Fin 50 → Vec F S2000x128 .f32) (m0 s0 : Vec F S8x128 .f32) (W : Waits sig Unit) (K : PUnit → sProp 𝕄) :
    iprop((iprop(owns (c : Thread nD τ) arg2 fullShare x
          ∗ owns (c : Thread nD τ) arg6 fullShare (mAt (zC t x (X (ck 0))) k0_pay256 5)
          ∗ owns (c : Thread nD τ) arg7 fullShare (sAt (zC t x (X (ck 0))) k0_pay256 k0_pay257 5)
          ∗ RX c (sl (t.val + 1)) (ck (t.val + 1)) X ∗ FS c (sl t.val) ∗ HX c (ck 0) X
          ∗ WR c (sl t.val) (ck 0) (cat5 (zC t x (X (ck 0))))
          ∗ ∃ W', owes (c : Thread nD τ) 0 W') -∗ K ⟨⟩)
      ∗ owns (c : Thread nD τ) arg2 fullShare x ∗ owns (c : Thread nD τ) arg6 fullShare m0 ∗ owns (c : Thread nD τ) arg7 fullShare s0
      ∗ FS c (sl t.val) ∗ HX c (ck 0) X ∗ FS c (sl (t.val + 1)) ∗ HX c (ck (t.val + 1)) X ∗ FT c (sl t.val) ∗ HA c (ck 0)
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : k0_cond1 (grid0.coords t) = 1#1 := (hcond1 t).mpr (by omega)
    have h2 : k0_cond2 (grid0.coords t) = 1#1 := (hcond2 t).mpr (by omega)
    have h3 : ¬ k0_cond3 (grid0.coords t) = 1#1 := fun h => by have := (hcond3 t).mp h; omega
    have h4 : k0_cond4 (grid0.coords t) = 1#1 := (hcond4 t).mpr (by omega)
    have h5 : ¬ k0_cond5 (grid0.coords t) = 1#1 := fun h => by have := (hcond5 t).mp h; omega
    have h6 : ¬ k0_cond6 (grid0.coords t) = 1#1 := fun h => by have := (hcond6 t).mp h; omega
    have h7 : ¬ cond7 (grid0.coords t) := fun h => by have := (hcond7 t).mp h; omega
    have h8 : k0_cond8 (grid0.coords t) = 1#1 := (hcond8 t).mpr (by omega)
    have h9 : ¬ k0_cond9 (grid0.coords t) = 1#1 := fun h => by have := (hcond9 t).mp h; omega
    have h10 : ¬ k0_cond10 (grid0.coords t) = 1#1 := fun h => by have := (hcond10 t).mp h; omega
    haveI : Fact (k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    haveI : Fact (¬ k0_cond5 (grid0.coords t) = 1#1) := ⟨h5⟩
    haveI : Fact (¬ k0_cond6 (grid0.coords t) = 1#1) := ⟨h6⟩
    haveI : Fact (¬ cond7 (grid0.coords t)) := ⟨h7⟩
    haveI : Fact (k0_cond8 (grid0.coords t) = 1#1) := ⟨h8⟩
    haveI : Fact (¬ k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton]
    refine hide fun Q hQ => ?_
    unfold FS HX FT HA owns
    iintro ⟨Hk, ⟨%f2, %hf2, H2⟩, ⟨%f6, %hf6, H6⟩, ⟨%f7, %hf7, H7⟩, ⟨Hf, ⟨%fx, Hx⟩⟩, ⟨%gx, Hg, %hgx⟩, ⟨Hc, ⟨%fs, Hs⟩⟩, ⟨%gn, Hn, %hgn⟩, ⟨Hw, ⟨%ew, He⟩⟩, ⟨%gh, Hh⟩, HW⟩
    obtain rfl := harg2.eq_unread hf2
    have hcut := fun (v2 v3 : BitVec 32) (v8 : F .f32) (fx : BufOf (F := F) c (slot (sl t.val))) (fe : BufOf (F := F) c (tile (sl t.val))) (f6 : BufOf (F := F) c arg6) (f7 : BufOf (F := F) c arg7) => part26_cut c t arg2 harg2 arg6 harg6 arg7 harg7 arg8 harg8 v2 v3 v8 h8 fx fe f6 f7
    have hcanon0 : ck t.val = ck 0 := by rw [ht]
    sl_exec (disch := first | sl_exact h1 | sl_exact h2 | sl_exact h3 | sl_exact h4 | sl_exact h5 | sl_exact h6 | sl_exact h7 | sl_exact h8 | sl_exact h9 | sl_exact h10)
    sl_step
    obtain ⟨he, hg7, hv⟩ := hk0_part26_4
    have hz : zBlk (runA.sl.r_1 c arg2 harg2 x) (runA.sl.v2 t) (slotRd (sl t.val) ((slot (sl t.val)).view.writes (Elt F) fx [⟨Rect.whole S2000x128, runA.sl.dma1 c gx⟩])) = zC t x (X (ck 0)) := by
      rw [show slotRd (sl t.val) ((slot (sl t.val)).view.writes (Elt F) fx [⟨Rect.whole S2000x128, runA.sl.dma1 c gx⟩]) = X (ck 0) from (landX _ _ _ _).trans hgx]
      unfold runA.sl.r_1 runA.sl.r
      rw [temp_load arg2 harg2 x]; rfl
    rw [hz, read_pay256, read_pay257] at hg7
    rw [hz, read_pay256] at hv
    rw [hz] at he
    subst hQ
    iapply Hk
    isplitl [H2]; · iapply (toOwns c arg2 x _ hf2); iexact H2
    isplitl [Hk0_part26_2]; · iapply (toOwns c arg6 _ _ ((read_pay4 arg6 _ _).trans hv)); iexact Hk0_part26_2
    isplitl [Hk0_part26_3]; · iapply (toOwns c arg7 _ _ hg7); iexact Hk0_part26_3
    isplitl [Hc]; · iapply (toRX c (sl (t.val + 1)) (ck (t.val + 1)) X fs gn hgn); iexact Hc
    isplitl [Hf Hk0_part26_0]; · iapply (toFS c (sl t.val) _); isplitl [Hf] <;> iassumption
    isplitl [Hg]; · iapply (toHX c (ck 0) X gx hgx); iexact Hg
    isplitl [Hw]; · iapply (toWR c (sl t.val) (ck 0) _ gh _ he); iexact Hw
    iexists _; iexact HW

end Cert.KernelIdeal.Hand
-- ==== Proof.KernelIdeal.RunB.lean ====
module

public import proofs.«01_k».proof.Proof.KernelIdeal.Atoms

@[expose] public section

/-! The body at point 1: in the first phase, before any copy out has to be waited for. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at point 1: it starts the next chunk's copy, works on the chunk that arrived, and starts copying the
free tile out. -/
theorem runB (c : Dev nD) (t : Fin cfg0.N) (ht : t.val = 1) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (X : Fin 50 → Vec F S2000x128 .f32) (m0 s0 : Vec F S8x128 .f32) (W : Waits sig Unit) (K : PUnit → sProp 𝕄) :
    iprop((iprop(owns (c : Thread nD τ) arg2 fullShare x
          ∗ owns (c : Thread nD τ) arg6 fullShare (mAt (zC t x (X (ck t.val))) m0 5)
          ∗ owns (c : Thread nD τ) arg7 fullShare (sAt (zC t x (X (ck t.val))) m0 s0 5)
          ∗ RX c (sl (t.val + 1)) (ck (t.val + 1)) X ∗ FS c (sl t.val) ∗ HX c (ck t.val) X
          ∗ WR c (sl t.val) (ck t.val) (cat5 (zC t x (X (ck t.val))))
          ∗ ∃ W', owes (c : Thread nD τ) 0 W') -∗ K ⟨⟩)
      ∗ owns (c : Thread nD τ) arg2 fullShare x ∗ owns (c : Thread nD τ) arg6 fullShare m0 ∗ owns (c : Thread nD τ) arg7 fullShare s0
      ∗ RX c (sl t.val) (ck t.val) X ∗ FS c (sl (t.val + 1)) ∗ HX c (ck (t.val + 1)) X ∗ FT c (sl t.val) ∗ HA c (ck t.val)
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : k0_cond2 (grid0.coords t) = 1#1 := (hcond2 t).mpr (by omega)
    have h3 : ¬ k0_cond3 (grid0.coords t) = 1#1 := fun h => by have := (hcond3 t).mp h; omega
    have h4 : k0_cond4 (grid0.coords t) = 1#1 := (hcond4 t).mpr (by omega)
    have h5 : ¬ k0_cond5 (grid0.coords t) = 1#1 := fun h => by have := (hcond5 t).mp h; omega
    have h6 : ¬ k0_cond6 (grid0.coords t) = 1#1 := fun h => by have := (hcond6 t).mp h; omega
    have h7 : ¬ cond7 (grid0.coords t) := fun h => by have := (hcond7 t).mp h; omega
    have h8 : k0_cond8 (grid0.coords t) = 1#1 := (hcond8 t).mpr (by omega)
    have h9 : ¬ k0_cond9 (grid0.coords t) = 1#1 := fun h => by have := (hcond9 t).mp h; omega
    have h10 : ¬ k0_cond10 (grid0.coords t) = 1#1 := fun h => by have := (hcond10 t).mp h; omega
    haveI : Fact (¬ k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    haveI : Fact (¬ k0_cond5 (grid0.coords t) = 1#1) := ⟨h5⟩
    haveI : Fact (¬ k0_cond6 (grid0.coords t) = 1#1) := ⟨h6⟩
    haveI : Fact (¬ cond7 (grid0.coords t)) := ⟨h7⟩
    haveI : Fact (k0_cond8 (grid0.coords t) = 1#1) := ⟨h8⟩
    haveI : Fact (¬ k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton]
    refine hide fun Q hQ => ?_
    unfold RX FS HX FT HA owns
    iintro ⟨Hk, ⟨%f2, %hf2, H2⟩, ⟨%f6, %hf6, H6⟩, ⟨%f7, %hf7, H7⟩, ⟨%fx, %gx, Hf, %hfx, %hgx⟩, ⟨Hc, ⟨%fs, Hs⟩⟩, ⟨%gn, Hn, %hgn⟩, ⟨Hw, ⟨%ew, He⟩⟩, ⟨%gh, Hh⟩, HW⟩
    obtain rfl := harg2.eq_unread hf2
    have hcut := fun (v2 v3 : BitVec 32) (v8 : F .f32) (fx : BufOf (F := F) c (slot (sl t.val))) (fe : BufOf (F := F) c (tile (sl t.val))) (f6 : BufOf (F := F) c arg6) (f7 : BufOf (F := F) c arg7) => part26_cut c t arg2 harg2 arg6 harg6 arg7 harg7 arg8 harg8 v2 v3 v8 h8 fx fe f6 f7
    sl_exec (disch := first | sl_exact h1 | sl_exact h2 | sl_exact h3 | sl_exact h4 | sl_exact h5 | sl_exact h6 | sl_exact h7 | sl_exact h8 | sl_exact h9 | sl_exact h10)
    sl_step
    obtain ⟨he, hg7, hv⟩ := hk0_part26_4
    have hz : zBlk (runB.sl.r_1 c arg2 harg2 x) (runB.sl.v2 t) (slotRd (sl t.val) fx) = zC t x (X (ck t.val)) := by
      rw [hfx]; unfold runB.sl.r_1 runB.sl.r
      rw [temp_load arg2 harg2 x]; rfl
    rw [hz, hf6, hf7] at hg7
    rw [hz, hf6] at hv
    rw [hz] at he
    subst hQ
    iapply Hk
    isplitl [H2]; · iapply (toOwns c arg2 x _ hf2); iexact H2
    isplitl [Hk0_part26_2]; · iapply (toOwns c arg6 _ _ ((read_pay4 arg6 _ _).trans hv)); iexact Hk0_part26_2
    isplitl [Hk0_part26_3]; · iapply (toOwns c arg7 _ _ hg7); iexact Hk0_part26_3
    isplitl [Hc]; · iapply (toRX c (sl (t.val + 1)) (ck (t.val + 1)) X fs gn hgn); iexact Hc
    isplitl [Hf Hk0_part26_0]; · iapply (toFS c (sl t.val) fx); isplitl [Hf] <;> iassumption
    isplitl [Hf_src]; · iapply (toHX c (ck t.val) X gx hgx); iexact Hf_src
    isplitl [Hw]; · iapply (toWR c (sl t.val) (ck t.val) _ gh _ he); iexact Hw
    iexists _; iexact HW

end Cert.KernelIdeal.Hand
-- ==== Proof.KernelIdeal.RunC.lean ====
module

public import proofs.«01_k».proof.Proof.KernelIdeal.Atoms

@[expose] public section

/-! The body at points 2 to 48: in the first phase, with both double buffers going round. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at a point from 2 to 48: it starts the next chunk's copy, works on the chunk that arrived, and starts
copying the tile out once the copy two points back is done. -/
theorem runC (c : Dev nD) (t : Fin cfg0.N) (ht : 2 ≤ t.val ∧ t.val < 49) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (X : Fin 50 → Vec F S2000x128 .f32) (m0 s0 : Vec F S8x128 .f32) (Zp : Vec F S2000x128 .f32) (W : Waits sig Unit) (K : PUnit → sProp 𝕄) :
    iprop((iprop(owns (c : Thread nD τ) arg2 fullShare x
          ∗ owns (c : Thread nD τ) arg6 fullShare (mAt (zC t x (X (ck t.val))) m0 5)
          ∗ owns (c : Thread nD τ) arg7 fullShare (sAt (zC t x (X (ck t.val))) m0 s0 5)
          ∗ RX c (sl (t.val + 1)) (ck (t.val + 1)) X ∗ FS c (sl t.val) ∗ HX c (ck t.val) X
          ∗ WR c (sl t.val) (ck t.val) (cat5 (zC t x (X (ck t.val)))) ∗ HO c (ck (t.val + 48)) Zp
          ∗ ∃ W', owes (c : Thread nD τ) 0 W') -∗ K ⟨⟩)
      ∗ owns (c : Thread nD τ) arg2 fullShare x ∗ owns (c : Thread nD τ) arg6 fullShare m0 ∗ owns (c : Thread nD τ) arg7 fullShare s0
      ∗ RX c (sl t.val) (ck t.val) X ∗ FS c (sl (t.val + 1)) ∗ HX c (ck (t.val + 1)) X ∗ WR c (sl t.val) (ck (t.val + 48)) Zp ∗ HA c (ck t.val)
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : k0_cond2 (grid0.coords t) = 1#1 := (hcond2 t).mpr (by omega)
    have h3 : ¬ k0_cond3 (grid0.coords t) = 1#1 := fun h => by have := (hcond3 t).mp h; omega
    have h4 : k0_cond4 (grid0.coords t) = 1#1 := (hcond4 t).mpr (by omega)
    have h5 : ¬ k0_cond5 (grid0.coords t) = 1#1 := fun h => by have := (hcond5 t).mp h; omega
    have h6 : k0_cond6 (grid0.coords t) = 1#1 := (hcond6 t).mpr (by omega)
    have h7 : ¬ cond7 (grid0.coords t) := fun h => by have := (hcond7 t).mp h; omega
    have h8 : k0_cond8 (grid0.coords t) = 1#1 := (hcond8 t).mpr (by omega)
    have h9 : ¬ k0_cond9 (grid0.coords t) = 1#1 := fun h => by have := (hcond9 t).mp h; omega
    have h10 : ¬ k0_cond10 (grid0.coords t) = 1#1 := fun h => by have := (hcond10 t).mp h; omega
    haveI : Fact (¬ k0_cond1 (grid0.coords t) = 1#1) := ⟨h1⟩
    haveI : Fact (k0_cond2 (grid0.coords t) = 1#1) := ⟨h2⟩
    haveI : Fact (¬ k0_cond3 (grid0.coords t) = 1#1) := ⟨h3⟩
    haveI : Fact (k0_cond4 (grid0.coords t) = 1#1) := ⟨h4⟩
    haveI : Fact (¬ k0_cond5 (grid0.coords t) = 1#1) := ⟨h5⟩
    haveI : Fact (k0_cond6 (grid0.coords t) = 1#1) := ⟨h6⟩
    haveI : Fact (¬ cond7 (grid0.coords t)) := ⟨h7⟩
    haveI : Fact (k0_cond8 (grid0.coords t) = 1#1) := ⟨h8⟩
    haveI : Fact (¬ k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton]
    refine hide fun Q hQ => ?_
    unfold RX FS HX WR HA owns
    iintro ⟨Hk, ⟨%f2, %hf2, H2⟩, ⟨%f6, %hf6, H6⟩, ⟨%f7, %hf7, H7⟩, ⟨%fx, %gx, Hf, %hfx, %hgx⟩, ⟨Hc, ⟨%fs, Hs⟩⟩, ⟨%gn, Hn, %hgn⟩, ⟨%gw, %ew, Hw, %hgw⟩, ⟨%gh, Hh⟩, HW⟩
    obtain rfl := harg2.eq_unread hf2
    have hcut := fun (v2 v3 : BitVec 32) (v8 : F .f32) (fx : BufOf (F := F) c (slot (sl t.val))) (fe : BufOf (F := F) c (tile (sl t.val))) (f6 : BufOf (F := F) c arg6) (f7 : BufOf (F := F) c arg7) => part26_cut c t arg2 harg2 arg6 harg6 arg7 harg7 arg8 harg8 v2 v3 v8 h8 fx fe f6 f7
    sl_exec (disch := first | sl_exact h1 | sl_exact h2 | sl_exact h3 | sl_exact h4 | sl_exact h5 | sl_exact h6 | sl_exact h7 | sl_exact h8 | sl_exact h9 | sl_exact h10)
    sl_step
    obtain ⟨he, hg7, hv⟩ := hk0_part26_4
    have hz : zBlk (runC.sl.r_1 c arg2 harg2 x) (runC.sl.v2 t) (slotRd (sl t.val) fx) = zC t x (X (ck t.val)) := by
      rw [hfx]; unfold runC.sl.r_1 runC.sl.r
      rw [temp_load arg2 harg2 x]; rfl
    rw [hz, hf6, hf7] at hg7
    rw [hz, hf6] at hv
    rw [hz] at he
    subst hQ
    iapply Hk
    isplitl [H2]; · iapply (toOwns c arg2 x _ hf2); iexact H2
    isplitl [Hk0_part26_2]; · iapply (toOwns c arg6 _ _ ((read_pay4 arg6 _ _).trans hv)); iexact Hk0_part26_2
    isplitl [Hk0_part26_3]; · iapply (toOwns c arg7 _ _ hg7); iexact Hk0_part26_3
    isplitl [Hc]; · iapply (toRX c (sl (t.val + 1)) (ck (t.val + 1)) X fs gn hgn); iexact Hc
    isplitl [Hf Hk0_part26_0]; · iapply (toFS c (sl t.val) fx); isplitl [Hf] <;> iassumption
    isplitl [Hf_src]; · iapply (toHX c (ck t.val) X gx hgx); iexact Hf_src
    isplitl [Hw]; · iapply (toWR c (sl t.val) (ck t.val) _ gh _ he); iexact Hw
    isplitl [Hw_dst]; · iapply (toHO c (ck (t.val + 48)) Zp gw hgw); iexact Hw_dst
    iexists _; iexact HW

end Cert.KernelIdeal.Hand
-- ==== Proof.KernelIdeal.RunD.lean ====
module

public import proofs.«01_k».proof.Proof.KernelIdeal.Atoms

@[expose] public section

/-! The body at point 49: the last of the first phase, which starts reading the result back. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at point 49: as before it, but the copy it starts is of the result's first chunk. -/
theorem runD (c : Dev nD) (t : Fin cfg0.N) (ht : t.val = 49) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (X : Fin 50 → Vec F S2000x128 .f32) (m0 s0 : Vec F S8x128 .f32) (Zn Zp : Vec F S2000x128 .f32) (W : Waits sig Unit) (K : PUnit → sProp 𝕄) :
    iprop((iprop(owns (c : Thread nD τ) arg2 fullShare x
          ∗ owns (c : Thread nD τ) arg6 fullShare (mAt (zC t x (X (ck t.val))) m0 5)
          ∗ owns (c : Thread nD τ) arg7 fullShare (sAt (zC t x (X (ck t.val))) m0 s0 5)
          ∗ RO c (sl (t.val + 1)) (ck (t.val + 1)) Zn ∗ FS c (sl t.val) ∗ HX c (ck t.val) X
          ∗ WR c (sl t.val) (ck t.val) (cat5 (zC t x (X (ck t.val)))) ∗ HO c (ck (t.val + 48)) Zp
          ∗ ∃ W', owes (c : Thread nD τ) 0 W') -∗ K ⟨⟩)
      ∗ owns (c : Thread nD τ) arg2 fullShare x ∗ owns (c : Thread nD τ) arg6 fullShare m0 ∗ owns (c : Thread nD τ) arg7 fullShare s0
      ∗ RX c (sl t.val) (ck t.val) X ∗ FS c (sl (t.val + 1)) ∗ HO c (ck (t.val + 1)) Zn ∗ WR c (sl t.val) (ck (t.val + 48)) Zp ∗ HA c (ck t.val)
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : ¬ k0_cond2 (grid0.coords t) = 1#1 := fun h => by have := (hcond2 t).mp h; omega
    have h3 : k0_cond3 (grid0.coords t) = 1#1 := (hcond3 t).mpr (by omega)
    have h4 : k0_cond4 (grid0.coords t) = 1#1 := (hcond4 t).mpr (by omega)
    have h5 : ¬ k0_cond5 (grid0.coords t) = 1#1 := fun h => by have := (hcond5 t).mp h; omega
    have h6 : k0_cond6 (grid0.coords t) = 1#1 := (hcond6 t).mpr (by omega)
    have h7 : ¬ cond7 (grid0.coords t) := fun h => by have := (hcond7 t).mp h; omega
    have h8 : k0_cond8 (grid0.coords t) = 1#1 := (hcond8 t).mpr (by omega)
    have h9 : ¬ k0_cond9 (grid0.coords t) = 1#1 := fun h => by have := (hcond9 t).mp h; omega
    have h10 : ¬ k0_cond10 (grid0.coords t) = 1#1 := fun h => by have := (hcond10 t).mp h; omega
    haveI : Fact (¬ k0_cond1 (grid0.coords t) = 1#1) := ⟨h1⟩
    haveI : Fact (¬ k0_cond2 (grid0.coords t) = 1#1) := ⟨h2⟩
    haveI : Fact (k0_cond3 (grid0.coords t) = 1#1) := ⟨h3⟩
    haveI : Fact (k0_cond4 (grid0.coords t) = 1#1) := ⟨h4⟩
    haveI : Fact (¬ k0_cond5 (grid0.coords t) = 1#1) := ⟨h5⟩
    haveI : Fact (k0_cond6 (grid0.coords t) = 1#1) := ⟨h6⟩
    haveI : Fact (¬ cond7 (grid0.coords t)) := ⟨h7⟩
    haveI : Fact (k0_cond8 (grid0.coords t) = 1#1) := ⟨h8⟩
    haveI : Fact (¬ k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton]
    refine hide fun Q hQ => ?_
    unfold RX FS HO WR HA owns
    iintro ⟨Hk, ⟨%f2, %hf2, H2⟩, ⟨%f6, %hf6, H6⟩, ⟨%f7, %hf7, H7⟩, ⟨%fx, %gx, Hf, %hfx, %hgx⟩, ⟨Hc, ⟨%fs, Hs⟩⟩, ⟨%gn, Hn, %hgn⟩, ⟨%gw, %ew, Hw, %hgw⟩, ⟨%gh, Hh⟩, HW⟩
    obtain rfl := harg2.eq_unread hf2
    have hcut := fun (v2 v3 : BitVec 32) (v8 : F .f32) (fx : BufOf (F := F) c (slot (sl t.val))) (fe : BufOf (F := F) c (tile (sl t.val))) (f6 : BufOf (F := F) c arg6) (f7 : BufOf (F := F) c arg7) => part26_cut c t arg2 harg2 arg6 harg6 arg7 harg7 arg8 harg8 v2 v3 v8 h8 fx fe f6 f7
    sl_exec (disch := first | sl_exact h1 | sl_exact h2 | sl_exact h3 | sl_exact h4 | sl_exact h5 | sl_exact h6 | sl_exact h7 | sl_exact h8 | sl_exact h9 | sl_exact h10)
    sl_step
    obtain ⟨he, hg7, hv⟩ := hk0_part26_4
    have hz : zBlk (runD.sl.r_1 c arg2 harg2 x) (runD.sl.v2 t) (slotRd (sl t.val) fx) = zC t x (X (ck t.val)) := by
      rw [hfx]; unfold runD.sl.r_1 runD.sl.r
      rw [temp_load arg2 harg2 x]; rfl
    rw [hz, hf6, hf7] at hg7
    rw [hz, hf6] at hv
    rw [hz] at he
    subst hQ
    iapply Hk
    isplitl [H2]; · iapply (toOwns c arg2 x _ hf2); iexact H2
    isplitl [Hk0_part26_2]; · iapply (toOwns c arg6 _ _ ((read_pay4 arg6 _ _).trans hv)); iexact Hk0_part26_2
    isplitl [Hk0_part26_3]; · iapply (toOwns c arg7 _ _ hg7); iexact Hk0_part26_3
    isplitl [Hc]; · iapply (toRO c (sl (t.val + 1)) (ck (t.val + 1)) Zn fs gn hgn); iexact Hc
    isplitl [Hf Hk0_part26_0]; · iapply (toFS c (sl t.val) fx); isplitl [Hf] <;> iassumption
    isplitl [Hf_src]; · iapply (toHX c (ck t.val) X gx hgx); iexact Hf_src
    isplitl [Hw]; · iapply (toWR c (sl t.val) (ck t.val) _ gh _ he); iexact Hw
    isplitl [Hw_dst]; · iapply (toHO c (ck (t.val + 48)) Zp gw hgw); iexact Hw_dst
    iexists _; iexact HW

end Cert.KernelIdeal.Hand
-- ==== Proof.KernelIdeal.RunE.lean ====
module

public import proofs.«01_k».proof.Proof.KernelIdeal.Atoms

@[expose] public section

/-! The body at point 50: the first of the second phase, which sets the final maximum and the final sum's inverse. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at point 50: it reduces the running maximum and sum over the eight sublanes, keeps the maximum and the
inverse of the sum, and then goes on as the points after it do. -/
theorem runE (c : Dev nD) (t : Fin cfg0.N) (ht : t.val = 50) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (m s : Vec F S8x128 .f32) (Z Zn Zp : Vec F S2000x128 .f32) (W : Waits sig Unit) (K : PUnit → sProp 𝕄) :
    iprop((iprop(owns (c : Thread nD τ) arg2 fullShare x ∗ owns (c : Thread nD τ) arg6 fullShare m ∗ owns (c : Thread nD τ) arg7 fullShare s
          ∗ FIN c arg8 (k0_pay2 m) (k0_pay3 m s)
          ∗ RO c (sl (t.val + 1)) (ck (t.val + 1)) Zn ∗ FS c (sl t.val)
          ∗ WR c (sl t.val) (ck t.val) (yC (k0_pay2 m) (k0_pay3 m s) Z) ∗ HO c (ck (t.val + 48)) Zp
          ∗ ∃ W', owes (c : Thread nD τ) 0 W') -∗ K ⟨⟩)
      ∗ owns (c : Thread nD τ) arg2 fullShare x ∗ owns (c : Thread nD τ) arg6 fullShare m ∗ owns (c : Thread nD τ) arg7 fullShare s
      ∗ (∃ f, scP c arg8 f)
      ∗ RO c (sl t.val) (ck t.val) Z ∗ FS c (sl (t.val + 1)) ∗ HO c (ck (t.val + 1)) Zn ∗ WR c (sl t.val) (ck (t.val + 48)) Zp
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : ¬ k0_cond2 (grid0.coords t) = 1#1 := fun h => by have := (hcond2 t).mp h; omega
    have h3 : k0_cond3 (grid0.coords t) = 1#1 := (hcond3 t).mpr (by omega)
    have h4 : ¬ k0_cond4 (grid0.coords t) = 1#1 := fun h => by have := (hcond4 t).mp h; omega
    have h5 : k0_cond5 (grid0.coords t) = 1#1 := (hcond5 t).mpr (by omega)
    have h6 : k0_cond6 (grid0.coords t) = 1#1 := (hcond6 t).mpr (by omega)
    have h7 : cond7 (grid0.coords t) := (hcond7 t).mpr (by omega)
    have h8 : ¬ k0_cond8 (grid0.coords t) = 1#1 := fun h => by have := (hcond8 t).mp h; omega
    have h9 : k0_cond9 (grid0.coords t) = 1#1 := (hcond9 t).mpr (by omega)
    have h10 : ¬ k0_cond10 (grid0.coords t) = 1#1 := fun h => by have := (hcond10 t).mp h; omega
    haveI : Fact (¬ k0_cond1 (grid0.coords t) = 1#1) := ⟨h1⟩
    haveI : Fact (¬ k0_cond2 (grid0.coords t) = 1#1) := ⟨h2⟩
    haveI : Fact (k0_cond3 (grid0.coords t) = 1#1) := ⟨h3⟩
    haveI : Fact (¬ k0_cond4 (grid0.coords t) = 1#1) := ⟨h4⟩
    haveI : Fact (k0_cond5 (grid0.coords t) = 1#1) := ⟨h5⟩
    haveI : Fact (k0_cond6 (grid0.coords t) = 1#1) := ⟨h6⟩
    haveI : Fact (cond7 (grid0.coords t)) := ⟨h7⟩
    haveI : Fact (¬ k0_cond8 (grid0.coords t) = 1#1) := ⟨h8⟩
    haveI : Fact (k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton, k0_part27_eq_skeleton]
    refine hide fun Q hQ => ?_
    unfold RO FS HO WR owns
    iintro ⟨Hk, ⟨%f2, %hf2, H2⟩, ⟨%f6, %hf6, H6⟩, ⟨%f7, %hf7, H7⟩, ⟨%f8, H8⟩, ⟨%fx, %gx, Hf, %hfx⟩, ⟨Hc, ⟨%fs, Hs⟩⟩, ⟨%gn, Hn, %hgn⟩, ⟨%gw, %ew, Hw, %hgw⟩, HW⟩
    obtain rfl := harg2.eq_unread hf2
    obtain rfl := harg6.eq_unread hf6
    obtain rfl := harg7.eq_unread hf7
    sl_exec (disch := first | sl_exact h1 | sl_exact h2 | sl_exact h3 | sl_exact h4 | sl_exact h5 | sl_exact h6 | sl_exact h7 | sl_exact h8 | sl_exact h9 | sl_exact h10)
    sl_step
    have L (k : ℕ) (hk : k < 5) {off : Fin 3 → ℕ} (inb : ∀ a, off a + S1x400x128.size a ≤ S2x2000x128.size a) (h : off = ![(sl t.val).val, 400 * k, 0]) :=
      load_blk (F := F) (sl t.val) k hk fx inb h
    have x0 := L 0 (by decide) (k0_off23_inb (grid0.coords t) h9) (off23_eq t)
    have x1 := L 1 (by decide) (k0_off24_inb (grid0.coords t) h9) (off24_eq t)
    have x2 := L 2 (by decide) (k0_off25_inb (grid0.coords t) h9) (off25_eq t)
    have x3 := L 3 (by decide) (k0_off26_inb (grid0.coords t) h9) (off26_eq t)
    have x4 := L 4 (by decide) (k0_off27_inb (grid0.coords t) h9) (off27_eq t)
    have l6 := load_unread harg6 m
    have l7 := load_unread harg7 s
    have q0 (f : BufOf (F := F) c arg8) : row0 arg8 (arg8.view.writes (Elt F) f (runE.sl.H8_2 c arg6 harg6 arg7 harg7 m s)) = k0_pay2 m :=
      (row0_writes arg8 f _ _).trans (congrArg k0_pay2 l6)
    have q1 (f : BufOf (F := F) c arg8) : row1 arg8 (arg8.view.writes (Elt F) f (runE.sl.H8_2 c arg6 harg6 arg7 harg7 m s)) = k0_pay3 m s :=
      (row1_writes arg8 f _ _).trans (congrArg₂ k0_pay3 l6 l7)
    have e0 : runE.sl.v46 c arg6 harg6 arg7 harg7 arg8 m s = k0_pay2 m := q0 _
    have e1 : runE.sl.v47 c arg6 harg6 arg7 harg7 arg8 m s = k0_pay3 m s := q1 _
    have he : tileRd (sl t.val) (runE.sl.Hw_src_w5 c t arg6 harg6 arg7 harg7 arg8 m s h9 fx ew) = yC (k0_pay2 m) (k0_pay3 m s) Z := by
      rw [← hfx, ← e0, ← e1]
      refine Eq.trans ?_ (store_five (sl t.val) ew (k0_off23_inb (grid0.coords t) h9) (k0_off24_inb (grid0.coords t) h9) (k0_off25_inb (grid0.coords t) h9)
        (k0_off26_inb (grid0.coords t) h9) (k0_off27_inb (grid0.coords t) h9) (off23_eq t) (off24_eq t) (off25_eq t) (off26_eq t) (off27_eq t) (fun k => yBlk (runE.sl.v46 c arg6 harg6 arg7 harg7 arg8 m s) (runE.sl.v47 c arg6 harg6 arg7 harg7 arg8 m s) (blkOf (slotRd (sl t.val) fx) k)))
      beta_reduce
      rw [← x0, ← x1, ← x2, ← x3, ← x4]; rfl
    subst hQ
    iapply Hk
    isplitl [H2]; · iapply (toOwns c arg2 x _ hf2); iexact H2
    isplitl [H6]; · iapply (toOwns c arg6 m _ hf6); iexact H6
    isplitl [H7]; · iapply (toOwns c arg7 s _ hf7); iexact H7
    isplitl [H8]
    · unfold FIN; iexists _
      isplitl [H8]; · iexact H8
      isplitr <;> ipureintro
      · exact q0 _
      · exact q1 _
    isplitl [Hc]; · iapply (toRO c (sl (t.val + 1)) (ck (t.val + 1)) Zn fs gn hgn); iexact Hc
    isplitl [Hf Hf_dst]; · iapply (toFS c (sl t.val) fx); isplitl [Hf] <;> iassumption
    isplitl [Hw]; · iapply (toWR c (sl t.val) (ck t.val) _ gx _ he); iexact Hw
    isplitl [Hw_dst]; · iapply (toHO c (ck (t.val + 48)) Zp gw hgw); iexact Hw_dst
    iexists _; iexact HW

end Cert.KernelIdeal.Hand
-- ==== Proof.KernelIdeal.RunF.lean ====
module

public import proofs.«01_k».proof.Proof.KernelIdeal.Atoms

@[expose] public section

/-! The body at points 51 to 98: in the second phase, with both double buffers going round. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at a point from 51 to 98: it starts the next chunk's copy back, turns the chunk that arrived into the
result's, and starts copying the tile out once the copy two points back is done. -/
theorem runF (c : Dev nD) (t : Fin cfg0.N) (ht : 50 < t.val ∧ t.val < 99) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (r0 r1 : Vec F S1x128 .f32) (Z Zn Zp : Vec F S2000x128 .f32) (W : Waits sig Unit) (K : PUnit → sProp 𝕄) :
    iprop((iprop(owns (c : Thread nD τ) arg2 fullShare x ∗ FIN c arg8 r0 r1
          ∗ RO c (sl (t.val + 1)) (ck (t.val + 1)) Zn ∗ FS c (sl t.val)
          ∗ WR c (sl t.val) (ck t.val) (yC r0 r1 Z) ∗ HO c (ck (t.val + 48)) Zp
          ∗ ∃ W', owes (c : Thread nD τ) 0 W') -∗ K ⟨⟩)
      ∗ owns (c : Thread nD τ) arg2 fullShare x ∗ FIN c arg8 r0 r1
      ∗ RO c (sl t.val) (ck t.val) Z ∗ FS c (sl (t.val + 1)) ∗ HO c (ck (t.val + 1)) Zn ∗ WR c (sl t.val) (ck (t.val + 48)) Zp
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : ¬ k0_cond2 (grid0.coords t) = 1#1 := fun h => by have := (hcond2 t).mp h; omega
    have h3 : k0_cond3 (grid0.coords t) = 1#1 := (hcond3 t).mpr (by omega)
    have h4 : ¬ k0_cond4 (grid0.coords t) = 1#1 := fun h => by have := (hcond4 t).mp h; omega
    have h5 : k0_cond5 (grid0.coords t) = 1#1 := (hcond5 t).mpr (by omega)
    have h6 : k0_cond6 (grid0.coords t) = 1#1 := (hcond6 t).mpr (by omega)
    have h7 : ¬ cond7 (grid0.coords t) := fun h => by have := (hcond7 t).mp h; omega
    have h8 : ¬ k0_cond8 (grid0.coords t) = 1#1 := fun h => by have := (hcond8 t).mp h; omega
    have h9 : k0_cond9 (grid0.coords t) = 1#1 := (hcond9 t).mpr (by omega)
    have h10 : ¬ k0_cond10 (grid0.coords t) = 1#1 := fun h => by have := (hcond10 t).mp h; omega
    haveI : Fact (¬ k0_cond1 (grid0.coords t) = 1#1) := ⟨h1⟩
    haveI : Fact (¬ k0_cond2 (grid0.coords t) = 1#1) := ⟨h2⟩
    haveI : Fact (k0_cond3 (grid0.coords t) = 1#1) := ⟨h3⟩
    haveI : Fact (¬ k0_cond4 (grid0.coords t) = 1#1) := ⟨h4⟩
    haveI : Fact (k0_cond5 (grid0.coords t) = 1#1) := ⟨h5⟩
    haveI : Fact (k0_cond6 (grid0.coords t) = 1#1) := ⟨h6⟩
    haveI : Fact (¬ cond7 (grid0.coords t)) := ⟨h7⟩
    haveI : Fact (¬ k0_cond8 (grid0.coords t) = 1#1) := ⟨h8⟩
    haveI : Fact (k0_cond9 (grid0.coords t) = 1#1) := ⟨h9⟩
    haveI : Fact (¬ k0_cond10 (grid0.coords t) = 1#1) := ⟨h10⟩
    simp only [cc0__body_eq_skeleton]; unfold cc0__body_skel
    simp only [k0_part28_eq_skeleton, k0_part27_eq_skeleton]
    refine hide fun Q hQ => ?_
    unfold RO FS HO WR FIN owns
    iintro ⟨Hk, ⟨%f2, %hf2, H2⟩, ⟨%f8, H8, %hr0, %hr1⟩, ⟨%fx, %gx, Hf, %hfx⟩, ⟨Hc, ⟨%fs, Hs⟩⟩, ⟨%gn, Hn, %hgn⟩, ⟨%gw, %ew, Hw, %hgw⟩, HW⟩
    obtain rfl := harg2.eq_unread hf2
    sl_exec (disch := first | sl_exact h1 | sl_exact h2 | sl_exact h3 | sl_exact h4 | sl_exact h5 | sl_exact h6 | sl_exact h7 | sl_exact h8 | sl_exact h9 | sl_exact h10)
    sl_step
    have L (k : ℕ) (hk : k < 5) {off : Fin 3 → ℕ} (inb : ∀ a, off a + S1x400x128.size a ≤ S2x2000x128.size a) (h : off = ![(sl t.val).val, 400 * k, 0]) :=
      load_blk (F := F) (sl t.val) k hk fx inb h
    have x0 := L 0 (by decide) (k0_off23_inb (grid0.coords t) h9) (off23_eq t)
    have x1 := L 1 (by decide) (k0_off24_inb (grid0.coords t) h9) (off24_eq t)
    have x2 := L 2 (by decide) (k0_off25_inb (grid0.coords t) h9) (off25_eq t)
    have x3 := L 3 (by decide) (k0_off26_inb (grid0.coords t) h9) (off26_eq t)
    have x4 := L 4 (by decide) (k0_off27_inb (grid0.coords t) h9) (off27_eq t)
    have he : tileRd (sl t.val) (runF.sl.Hw_src_w5 c t r0 r1 h9 fx ew) = yC r0 r1 Z := by
      rw [← hfx]
      refine Eq.trans ?_ (store_five (sl t.val) ew (k0_off23_inb (grid0.coords t) h9) (k0_off24_inb (grid0.coords t) h9) (k0_off25_inb (grid0.coords t) h9)
        (k0_off26_inb (grid0.coords t) h9) (k0_off27_inb (grid0.coords t) h9) (off23_eq t) (off24_eq t) (off25_eq t) (off26_eq t) (off27_eq t) (fun k => yBlk r0 r1 (blkOf (slotRd (sl t.val) fx) k)))
      beta_reduce
      rw [← x0, ← x1, ← x2, ← x3, ← x4]; rfl
    subst hQ
    iapply Hk
    isplitl [H2]; · iapply (toOwns c arg2 x _ hf2); iexact H2
    isplitl [H8]
    · unfold FIN; iexists f8
      isplitl [H8]; · iexact H8
      isplitr <;> ipureintro
      · exact hr0
      · exact hr1
    isplitl [Hc]; · iapply (toRO c (sl (t.val + 1)) (ck (t.val + 1)) Zn fs gn hgn); iexact Hc
    isplitl [Hf Hf_dst]; · iapply (toFS c (sl t.val) fx); isplitl [Hf] <;> iassumption
    isplitl [Hw]; · iapply (toWR c (sl t.val) (ck t.val) _ gx _ he); iexact Hw
    isplitl [Hw_dst]; · iapply (toHO c (ck (t.val + 48)) Zp gw hgw); iexact Hw_dst
    iexists _; iexact HW

end Cert.KernelIdeal.Hand
-- ==== Proof.KernelIdeal.RunG.lean ====
module

public import proofs.«01_k».proof.Proof.KernelIdeal.Atoms

@[expose] public section

/-! The body at point 99: the last, which waits for every copy out. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at point 99: it turns the last chunk that arrived into the result's, copies the tile out, and waits for
both copies out. -/
theorem runG (c : Dev nD) (t : Fin cfg0.N) (ht : t.val = 99) (arg2 : Memref sig .tc .smem S1 .i32) (harg2 : arg2.IsWhole) (arg6 : Memref sig .tc .vmem S8x128 .f32) (harg6 : arg6.IsWhole) (arg7 : Memref sig .tc .vmem S8x128 .f32) (harg7 : arg7.IsWhole) (arg8 : Memref sig .tc .vmem S2x128 .f32) (harg8 : arg8.IsWhole)
    (x : Vec F S1 .i32) (r0 r1 : Vec F S1x128 .f32) (Z Zp Zq : Vec F S2000x128 .f32) (W : Waits sig Unit) (K : PUnit → sProp 𝕄) :
    iprop((iprop(owns (c : Thread nD τ) arg2 fullShare x ∗ FIN c arg8 r0 r1
          ∗ FS c (sl t.val) ∗ FT c (sl t.val) ∗ FT c (sl (t.val + 1))
          ∗ HO c (ck t.val) (yC r0 r1 Z) ∗ HO c (ck (t.val + 48)) Zp ∗ HO c (ck (t.val + 49)) Zq
          ∗ ∃ W', owes (c : Thread nD τ) 0 W') -∗ K ⟨⟩)
      ∗ owns (c : Thread nD τ) arg2 fullShare x ∗ FIN c arg8 r0 r1
      ∗ RO c (sl t.val) (ck t.val) Z ∗ WR c (sl t.val) (ck (t.val + 48)) Zp ∗ WR c (sl (t.val + 1)) (ck (t.val + 49)) Zq
      ∗ owes (c : Thread nD τ) 0 W)
      ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _) arg6 harg6 arg7 harg7 arg8 harg8 cc0_scratch5 cc0_scratch6) K := by
    have h1 : ¬ k0_cond1 (grid0.coords t) = 1#1 := fun h => by have := (hcond1 t).mp h; omega
    have h2 : ¬ k0_cond2 (grid0.coords t) = 1#1 := fun h => by have := (hcond2 t).mp h; omega
    have h3 : ¬ k0_cond3 (grid0.coords t) = 1#1 := fun h => by have := (hcond3 t).mp h; omega
    have h4 : ¬ k0_cond4 (grid0.coords t) = 1#1 := fun h => by have := (hcond4 t).mp h; omega
    have h5 : k0_cond5 (grid0.coords t) = 1#1 := (hcond5 t).mpr (by omega)
    have h6 : k0_cond6 (grid0.coords t) = 1#1 := (hcond6 t).mpr (by omega)
    have h7 : ¬ cond7 (grid0.coords t) := fun h => by have := (hcond7 t).mp h; omega
    have h8 : ¬ k0_cond8 (grid0.coords t) = 1#1 := fun h => by have := (hcond8 t).mp h; omega
    have h9 : k0_cond9 (grid0.coords t) = 1#1 := (hcond9 t).mpr (by omega)
    have h10 : k0_cond10 (grid0.coords t) = 1#1 := (hcond10 t).mpr (by omega)
    haveI : Fact (¬ k0_cond1 (grid0.coords t) = 1#1) := ⟨h1⟩
    haveI : Fact (¬ k0_cond2 (grid0.coords t) = 1#1) := ⟨h2⟩
    haveI : Fact (¬ k0_cond3 (grid0.coords t) = 1#1) := ⟨h3⟩
    haveI : Fact (¬ k0_cond4 (grid0.coords t) = 1#1) := ⟨h4⟩
    haveI : Fact (k0_cond5 (grid0.coords t) = 1#1) := ⟨h5⟩
    haveI : Fact (k0_cond6 (grid0.coords t) = 1#1) := ⟨h6⟩
    haveI : Fact (¬ cond7 (grid0.coords t)) := ⟨h7⟩
    haveI : Fact (¬ k0_cond8 (grid0.coords t) = 1#1) := ⟨h8⟩
    haveI : Fact (k0_cond9 (grid0.coords t) = 1#1) := ⟨h9⟩
    haveI : Fact (k0_cond10 (grid0.coords t) = 1#1) := ⟨h10⟩
    simp only [cc0__body_eq_skeleton]; unfold cc0__body_skel
    simp only [k0_part28_eq_skeleton, k0_part27_eq_skeleton]
    refine hide fun Q hQ => ?_
    unfold RO WR FIN owns
    iintro ⟨Hk, ⟨%f2, %hf2, H2⟩, ⟨%f8, H8, %hr0, %hr1⟩, ⟨%fx, %gx, Hf, %hfx⟩, ⟨%gw, %ew, Hw, %hgw⟩, ⟨%gq, %eq, Hq, %hgq⟩, HW⟩
    obtain rfl := harg2.eq_unread hf2
    sl_exec (disch := first | sl_exact h1 | sl_exact h2 | sl_exact h3 | sl_exact h4 | sl_exact h5 | sl_exact h6 | sl_exact h7 | sl_exact h8 | sl_exact h9 | sl_exact h10)
    sl_step
    have L (k : ℕ) (hk : k < 5) {off : Fin 3 → ℕ} (inb : ∀ a, off a + S1x400x128.size a ≤ S2x2000x128.size a) (h : off = ![(sl t.val).val, 400 * k, 0]) :=
      load_blk (F := F) (sl t.val) k hk fx inb h
    have x0 := L 0 (by decide) (k0_off23_inb (grid0.coords t) h9) (off23_eq t)
    have x1 := L 1 (by decide) (k0_off24_inb (grid0.coords t) h9) (off24_eq t)
    have x2 := L 2 (by decide) (k0_off25_inb (grid0.coords t) h9) (off25_eq t)
    have x3 := L 3 (by decide) (k0_off26_inb (grid0.coords t) h9) (off26_eq t)
    have x4 := L 4 (by decide) (k0_off27_inb (grid0.coords t) h9) (off27_eq t)
    have he : tileRd (sl t.val) (runG.sl.Hw_src_w5 c t r0 r1 h9 fx ew) = yC r0 r1 Z := by
      rw [← hfx]
      refine Eq.trans ?_ (store_five (sl t.val) ew (k0_off23_inb (grid0.coords t) h9) (k0_off24_inb (grid0.coords t) h9) (k0_off25_inb (grid0.coords t) h9)
        (k0_off26_inb (grid0.coords t) h9) (k0_off27_inb (grid0.coords t) h9) (off23_eq t) (off24_eq t) (off25_eq t) (off26_eq t) (off27_eq t) (fun k => yBlk r0 r1 (blkOf (slotRd (sl t.val) fx) k)))
      beta_reduce
      rw [← x0, ← x1, ← x2, ← x3, ← x4]; rfl
    subst hQ
    iapply Hk
    isplitl [H2]; · iapply (toOwns c arg2 x _ hf2); iexact H2
    isplitl [H8]
    · unfold FIN; iexists f8
      isplitl [H8]; · iexact H8
      isplitr <;> ipureintro
      · exact hr0
      · exact hr1
    isplitl [Hf Hf_dst]; · iapply (toFS c (sl t.val) fx); isplitl [Hf] <;> iassumption
    isplitl [Hw Hw_src]; · iapply (toFT c (sl t.val) _); (isplitl [Hw]; · iexact Hw); iexact Hw_src
    isplitl [Hq Hq_src]; · iapply (toFT c (sl (t.val + 1)) eq); isplitl [Hq] <;> iassumption
    isplitl [Hf_src]; · iapply (toHO c (ck t.val) _ _ ((landW _ _ gx _).trans he)); iexact Hf_src
    isplitl [Hw_dst]; · iapply (toHO c (ck (t.val + 48)) Zp gw hgw); iexact Hw_dst
    isplitl [Hq_dst]; · iapply (toHO c (ck (t.val + 49)) Zq gq hgq); iexact Hq_dst
    iexists _; iexact HW

end Cert.KernelIdeal.Hand
-- ==== Proof.KernelIdeal.Body.lean ====
module

public import proofs.«01_k».proof.Proof.KernelIdeal.Inv
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE
public import proofs.«01_k».proof.Proof.KernelIdeal.RunF
public import proofs.«01_k».proof.Proof.KernelIdeal.RunG

@[expose] public section

/-! Every step takes what is there before it to what is there after it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (x : Vec F S1 .i32) (X : Fin 50 → Vec F S2000x128 .f32) (c : Dev nD)

/-! ## The states, case by case -/

theorem ms_lo (k : ℕ) (h : 1 ≤ k ∧ k ≤ 50) : msSt x X c k
    = (iprop(owns (c : Thread nD τ) (Memref.whole cc0_scratch2) fullShare (Mv x X k) ∗ owns (c : Thread nD τ) (Memref.whole cc0_scratch3) fullShare (Sv x X k)) : sProp 𝕄) := by
  unfold msSt; rw [if_neg (by omega), min_eq_left h.2]
theorem ms_hi (k : ℕ) (h : 50 ≤ k) : msSt x X c k
    = (iprop(owns (c : Thread nD τ) (Memref.whole cc0_scratch2) fullShare (Mv x X 50) ∗ owns (c : Thread nD τ) (Memref.whole cc0_scratch3) fullShare (Sv x X 50)) : sProp 𝕄) := by
  unfold msSt; rw [if_neg (by omega), min_eq_right h]
theorem fin_lo (k : ℕ) (h : k ≤ 50) : finSt x X c k = (iprop(∃ f, scP (F := F) c (Memref.whole cc0_scratch4) f) : sProp 𝕄) := if_pos h
theorem fin_hi (k : ℕ) (h : 50 < k) : finSt x X c k = FIN c (Memref.whole cc0_scratch4) (R0v x X) (R1v x X) := if_neg (by omega)
theorem rd_lo (k : ℕ) (h : 1 ≤ k ∧ k ≤ 49) : rdSt x X c k = iprop(RX c (sl k) (ck k) X ∗ FS c (sl (k + 1))) := if_pos h
theorem rd_hi (k : ℕ) (h : 50 ≤ k ∧ k ≤ 99) : rdSt x X c k = iprop(RO c (sl k) (ck k) (Zv x X (ck k)) ∗ FS c (sl (k + 1))) := by
  unfold rdSt; rw [if_neg (by omega), if_pos h]
theorem rd_next_lo (k : ℕ) (h : k < 49) : rdSt x X c (k + 1) = iprop(RX c (sl (k + 1)) (ck (k + 1)) X ∗ FS c (sl k)) := by
  rw [rd_lo x X c (k + 1) (by omega), sl_two]
theorem rd_next_hi (k : ℕ) (h : 49 ≤ k ∧ k < 99) : rdSt x X c (k + 1) = iprop(RO c (sl (k + 1)) (ck (k + 1)) (Zv x X (ck (k + 1))) ∗ FS c (sl k)) := by
  rw [rd_hi x X c (k + 1) (by omega), sl_two]
theorem wr_mid (k : ℕ) (h : 2 ≤ k ∧ k ≤ 99) : wrSt x X c k = iprop(WR c (sl k) (ck (k + 48)) (Wv x X (k - 2)) ∗ WR c (sl (k + 1)) (ck (k + 49)) (Wv x X (k - 1))) := by
  unfold wrSt; rw [if_neg (by omega), if_pos h]
theorem wr_next (k : ℕ) (h : 1 ≤ k ∧ k < 99) : wrSt x X c (k + 1) = iprop(WR c (sl (k + 1)) (ck (k + 49)) (Wv x X (k - 1)) ∗ WR c (sl k) (ck k) (Wv x X k)) := by
  rw [wr_mid x X c (k + 1) (by omega), sl_two, show k + 1 + 48 = k + 49 by omega, show k + 1 + 49 = k + 50 by omega, ck_fifty, show k + 1 - 2 = k - 1 by omega,
    Nat.add_sub_cancel]

/-- The values a step makes are the next ones. -/
theorem Mv_next (t : Fin grid0.N) : mAt (zC t x (X (ck t.val))) (Mv x X t.val) 5 = Mv x X (t.val + 1) := by
  show _ = mAt (zC (pt t.val) x (X (ck t.val))) (Mv x X t.val) 5
  rw [pt_val]
theorem Sv_next (t : Fin grid0.N) : sAt (zC t x (X (ck t.val))) (Mv x X t.val) (Sv x X t.val) 5 = Sv x X (t.val + 1) := by
  show _ = sAt (zC (pt t.val) x (X (ck t.val))) (Mv x X t.val) (Sv x X t.val) 5
  rw [pt_val]
theorem Wv_lo (t : Fin grid0.N) (h : t.val < 50) : cat5 (zC t x (X (ck t.val))) = Wv x X t.val := by
  unfold Wv Zv
  rw [if_pos h, show (ck t.val).val = t.val from Nat.mod_eq_of_lt h, pt_val]
theorem Wv_hi (k : ℕ) (h : 50 ≤ k) : yC (R0v x X) (R1v x X) (Zv x X (ck k)) = Wv x X k := by
  unfold Wv; rw [if_neg (by omega)]; rfl

/-! ## The steps -/

variable (t : Fin cfg0.N) (arg2 : Memref sig .tc .smem S1 .i32) (harg2 : arg2.IsWhole)

/-- The body at point `t` on the pieces there before it. -/
def Step : Prop := ∀ (W : Waits sig Unit) (K : PUnit → sProp 𝕄),
  iprop((iprop(Inv x X c (t.val + 1) ∗ owns (c : Thread nD τ) arg2 fullShare x ∗ ∃ W', owes (c : Thread nD τ) 0 W') -∗ K ⟨⟩)
      ∗ Inv x X c t.val ∗ owns (c : Thread nD τ) arg2 fullShare x ∗ owes (c : Thread nD τ) 0 W)
    ⊢ wp frame (wpE (defs₀ (F := F)) Variants.none c none) Set.univ (cc0__body (grid0.coords t) mX (Memref.isWhole_whole _) arg2 harg2 mO (Memref.isWhole_whole _) mIn (Memref.isWhole_whole _) mOut (Memref.isWhole_whole _)
        (Memref.whole cc0_scratch2) (Memref.isWhole_whole _) (Memref.whole cc0_scratch3) (Memref.isWhole_whole _) (Memref.whole cc0_scratch4) (Memref.isWhole_whole _) cc0_scratch5 cc0_scratch6) K

theorem stepA (h : t.val = 0) : Step x X c t arg2 harg2 := fun W K => by
  unfold Inv
  have hM := Mv_next x X t
  have hS := Sv_next x X t
  have hW := Wv_lo x X t (by omega)
  rw [fin_lo x X c t.val (by omega), fin_lo x X c (t.val + 1) (by omega), ms_lo x X c (t.val + 1) (by omega), rd_next_lo x X c t.val (by omega),
    show msSt x X c t.val = _ from if_pos h, show rdSt x X c t.val = _ from (if_neg (by omega)).trans (if_neg (by omega)),
    show wrSt x X c t.val = _ from (if_neg (by omega)).trans (if_neg (by omega)), show wrSt x X c (t.val + 1) = _ from if_pos (by omega), ← hM, ← hS]
  have run := runA c t h arg2 harg2 (Memref.whole cc0_scratch2) (Memref.isWhole_whole _) (Memref.whole cc0_scratch3) (Memref.isWhole_whole _) (Memref.whole cc0_scratch4) (Memref.isWhole_whole _) x X
  rw [h] at run hW
  rw [h]
  rw [hW] at run
  iintro ⟨Hk, ⟨⟨⟨%m0, Hm⟩, %s0, Hs⟩, Hf, ⟨HR, HR'⟩, ⟨HT, HT'⟩, Hx, Ho⟩, H2, Hw⟩
  ihave Hx := (xs_zero X c) $$ Hx
  icases Hx with ⟨Hx0, Hx1, Hxk⟩
  ihave Ho := (os_start x X c 0 (by omega)) $$ Ho
  icases Ho with ⟨Ho0, Hok⟩
  iapply (run m0 s0 W K)
  isplitl [Hk Hf Hxk Hok HT']
  · iintro ⟨H2, Hm, Hs, HR, HF, Hx, HW, Hw⟩
    ihave Hxk := Hxk $$ Hx
    iapply Hk
    iframe Hm Hs Hf HR HF HT' HW Hxk Hok H2 Hw
  iframe H2 Hm Hs HR Hx0 HR' Hx1 HT Ho0 Hw

theorem stepB (h : t.val = 1) : Step x X c t arg2 harg2 := fun W K => by
  unfold Inv
  have hM := Mv_next x X t
  have hS := Sv_next x X t
  have hW := Wv_lo x X t (by omega)
  rw [fin_lo x X c t.val (by omega), fin_lo x X c (t.val + 1) (by omega), ms_lo x X c t.val (by omega), ms_lo x X c (t.val + 1) (by omega),
    rd_lo x X c t.val (by omega), rd_next_lo x X c t.val (by omega),
    show wrSt x X c t.val = _ from if_pos h, wr_next x X c t.val (by omega), ← hM, ← hS, ← hW, show t.val - 1 = 0 by omega]
  iintro ⟨Hk, ⟨⟨Hm, Hs⟩, Hf, ⟨HR, HR'⟩, ⟨HT, HT'⟩, Hx, Ho⟩, H2, Hw⟩
  ihave Hx := (xs_mid X c t.val (by omega)) $$ Hx
  icases Hx with ⟨Hx1, Hxk⟩
  ihave Ho := (os_start x X c t.val (by omega)) $$ Ho
  icases Ho with ⟨Ho0, Hok⟩
  iapply (runB c t h arg2 harg2 (Memref.whole cc0_scratch2) (Memref.isWhole_whole _) (Memref.whole cc0_scratch3) (Memref.isWhole_whole _) (Memref.whole cc0_scratch4) (Memref.isWhole_whole _) x X _ _ W K)
  isplitl [Hk Hf Hxk Hok HT']
  · iintro ⟨H2, Hm, Hs, HR, HF, Hx, HW, Hw⟩
    ihave Hxk := Hxk $$ Hx
    iapply Hk
    iframe Hm Hs Hf HR HF HT' HW Hxk Hok H2 Hw
  iframe H2 Hm Hs HR Hx1 HR' HT Ho0 Hw

theorem stepC (h : 2 ≤ t.val ∧ t.val < 49) : Step x X c t arg2 harg2 := fun W K => by
  unfold Inv
  have hM := Mv_next x X t
  have hS := Sv_next x X t
  have hW := Wv_lo x X t (by omega)
  rw [fin_lo x X c t.val (by omega), fin_lo x X c (t.val + 1) (by omega), ms_lo x X c t.val (by omega), ms_lo x X c (t.val + 1) (by omega),
    rd_lo x X c t.val (by omega), rd_next_lo x X c t.val (by omega),
    wr_mid x X c t.val (by omega), wr_next x X c t.val (by omega), ← hM, ← hS, ← hW]
  iintro ⟨Hk, ⟨⟨Hm, Hs⟩, Hf, ⟨HR, HR'⟩, ⟨HT, HT'⟩, Hx, Ho⟩, H2, Hw⟩
  ihave Hx := (xs_mid X c t.val (by omega)) $$ Hx
  icases Hx with ⟨Hx1, Hxk⟩
  ihave Ho := (os_low x X c t.val (by omega)) $$ Ho
  icases Ho with ⟨Ho0, Hok⟩
  iapply (runC c t h arg2 harg2 (Memref.whole cc0_scratch2) (Memref.isWhole_whole _) (Memref.whole cc0_scratch3) (Memref.isWhole_whole _) (Memref.whole cc0_scratch4) (Memref.isWhole_whole _) x X _ _ (Wv x X (t.val - 2)) W K)
  isplitl [Hk Hf Hxk Hok HT']
  · iintro ⟨H2, Hm, Hs, HR, HF, Hx, HW, Ho, Hw⟩
    ihave Hxk := Hxk $$ Hx
    ihave Hok := Hok $$ Ho
    iapply Hk
    iframe Hm Hs Hf HR HF HT' HW Hxk Hok H2 Hw
  iframe H2 Hm Hs HR Hx1 HR' HT Ho0 Hw

theorem stepD (h : t.val = 49) : Step x X c t arg2 harg2 := fun W K => by
  unfold Inv
  have hM := Mv_next x X t
  have hS := Sv_next x X t
  have hW := Wv_lo x X t (by omega)
  have hx := xs_last (F := F) X c
  have ho := os_turn x X c
  rw [← h] at ho
  rw [← h] at hx
  rw [fin_lo x X c t.val (by omega), fin_lo x X c (t.val + 1) (by omega), ms_lo x X c t.val (by omega), ms_lo x X c (t.val + 1) (by omega),
    rd_lo x X c t.val (by omega), rd_next_hi x X c t.val (by omega),
    wr_mid x X c t.val (by omega), wr_next x X c t.val (by omega), ← hM, ← hS, ← hW]
  iintro ⟨Hk, ⟨⟨Hm, Hs⟩, Hf, ⟨HR, HR'⟩, ⟨HT, HT'⟩, Hx, Ho⟩, H2, Hw⟩
  ihave Hxk := hx $$ Hx
  ihave Ho := ho $$ Ho
  icases Ho with ⟨Ho0, Ho1, Hok⟩
  iapply (runD c t h arg2 harg2 (Memref.whole cc0_scratch2) (Memref.isWhole_whole _) (Memref.whole cc0_scratch3) (Memref.isWhole_whole _) (Memref.whole cc0_scratch4) (Memref.isWhole_whole _) x X _ _ (Zv x X (ck (t.val + 1))) (Wv x X (t.val - 2)) W K)
  isplitl [Hk Hf Hxk Hok HT']
  · iintro ⟨H2, Hm, Hs, HR, HF, Hx, HW, Ho, Hw⟩
    ihave Hxk := Hxk $$ Hx
    ihave Hok := Hok $$ Ho
    iapply Hk
    iframe Hm Hs Hf HR HF HT' HW Hxk Hok H2 Hw
  iframe H2 Hm Hs HR Ho1 HR' HT Ho0 Hw

theorem stepE (h : t.val = 50) : Step x X c t arg2 harg2 := fun W K => by
  unfold Inv
  have hW := Wv_hi x X t.val (by omega)
  unfold R0v R1v at hW
  rw [fin_lo x X c t.val (by omega), fin_hi x X c (t.val + 1) (by omega), ms_hi x X c t.val (by omega), ms_hi x X c (t.val + 1) (by omega),
    rd_hi x X c t.val (by omega), rd_next_hi x X c t.val (by omega), xs_far X c t.val (by omega),
    wr_mid x X c t.val (by omega), wr_next x X c t.val (by omega), ← hW]
  unfold R0v R1v
  iintro ⟨Hk, ⟨⟨Hm, Hs⟩, Hf, ⟨HR, HR'⟩, ⟨HT, HT'⟩, Hx, Ho⟩, H2, Hw⟩
  ihave Ho := (os_high x X c t.val (by omega)) $$ Ho
  icases Ho with ⟨Ho1, Hok⟩
  iapply (runE c t h arg2 harg2 (Memref.whole cc0_scratch2) (Memref.isWhole_whole _) (Memref.whole cc0_scratch3) (Memref.isWhole_whole _) (Memref.whole cc0_scratch4) (Memref.isWhole_whole _) x (Mv x X 50) (Sv x X 50) (Zv x X (ck t.val)) (Zv x X (ck (t.val + 1))) (Wv x X (t.val - 2)) W K)
  isplitl [Hk Hx Hok HT']
  · iintro ⟨H2, Hm, Hs, Hf, HR, HF, HW, Ho, Hw⟩
    ihave Hok := Hok $$ Ho
    iapply Hk
    iframe Hm Hs Hf HR HF HT' HW Hx Hok H2 Hw
  iframe H2 Hm Hs Hf HR Ho1 HR' HT Hw

theorem stepF (h : 50 < t.val ∧ t.val < 99) : Step x X c t arg2 harg2 := fun W K => by
  unfold Inv
  have hW := Wv_hi x X t.val (by omega)
  rw [fin_hi x X c t.val (by omega), fin_hi x X c (t.val + 1) (by omega), ms_hi x X c t.val (by omega), ms_hi x X c (t.val + 1) (by omega),
    rd_hi x X c t.val (by omega), rd_next_hi x X c t.val (by omega), xs_far X c t.val (by omega),
    wr_mid x X c t.val (by omega), wr_next x X c t.val (by omega), ← hW]
  iintro ⟨Hk, ⟨Hms, Hf, ⟨HR, HR'⟩, ⟨HT, HT'⟩, Hx, Ho⟩, H2, Hw⟩
  ihave Ho := (os_high x X c t.val (by omega)) $$ Ho
  icases Ho with ⟨Ho1, Hok⟩
  iapply (runF c t h arg2 harg2 (Memref.whole cc0_scratch2) (Memref.isWhole_whole _) (Memref.whole cc0_scratch3) (Memref.isWhole_whole _) (Memref.whole cc0_scratch4) (Memref.isWhole_whole _) x (R0v x X) (R1v x X) (Zv x X (ck t.val)) (Zv x X (ck (t.val + 1))) (Wv x X (t.val - 2)) W K)
  isplitl [Hk Hms Hx Hok HT']
  · iintro ⟨H2, Hf, HR, HF, HW, Ho, Hw⟩
    ihave Hok := Hok $$ Ho
    iapply Hk
    iframe Hms Hf HR HF HT' HW Hx Hok H2 Hw
  iframe H2 Hf HR Ho1 HR' HT Hw

theorem stepG (h : t.val = 99) : Step x X c t arg2 harg2 := fun W K => by
  unfold Inv
  have hW : yC (R0v x X) (R1v x X) (Zv x X (ck t.val)) = Yv x X (ck t.val) := rfl
  have ho := os_end x X c
  rw [← h] at ho
  rw [fin_hi x X c t.val (by omega), fin_hi x X c (t.val + 1) (by omega), ms_hi x X c t.val (by omega), ms_hi x X c (t.val + 1) (by omega),
    rd_hi x X c t.val (by omega), xs_far X c t.val (by omega), wr_mid x X c t.val (by omega),
    show rdSt x X c (t.val + 1) = iprop(FS c (sl (t.val + 1)) ∗ FS c (sl (t.val + 1 + 1))) from (if_neg (by omega)).trans (if_neg (by omega)),
    show wrSt x X c (t.val + 1) = iprop(FT c (sl (t.val + 1)) ∗ FT c (sl (t.val + 1 + 1))) from (if_neg (by omega)).trans (if_neg (by omega)), sl_two]
  iintro ⟨Hk, ⟨Hms, Hf, ⟨HR, HR'⟩, ⟨HT, HT'⟩, Hx, Ho⟩, H2, Hw⟩
  iapply (runG c t h arg2 harg2 (Memref.whole cc0_scratch2) (Memref.isWhole_whole _) (Memref.whole cc0_scratch3) (Memref.isWhole_whole _) (Memref.whole cc0_scratch4) (Memref.isWhole_whole _) x (R0v x X) (R1v x X) (Zv x X (ck t.val)) (Wv x X (t.val - 2)) (Wv x X (t.val - 1)) W K)
  isplitl [Hk Hms Hx Ho HR']
  · iintro ⟨H2, Hf, HF, HT, HT', Ha, Hb, Hc, Hw⟩
    rw [hW]
    ihave Ho := ho $$ [Ho Ha Hb Hc]
    · iframe Ho Ha Hb Hc
    iapply Hk
    iframe Hms Hf HR' HF HT HT' Hx Ho H2 Hw
  iframe H2 Hf HR HT HT' Hw

/-- Every step takes what is there before it to what is there after it. -/
theorem step : Step x X c t arg2 harg2 := by
  have hN : t.val < 100 := lt_of_lt_of_eq t.isLt (show cfg0.N = 100 from N_0)
  rcases (show t.val = 0 ∨ t.val = 1 ∨ (2 ≤ t.val ∧ t.val < 49) ∨ t.val = 49 ∨ t.val = 50 ∨ (50 < t.val ∧ t.val < 99) ∨ t.val = 99 by omega) with h | h | h | h | h | h | h
  · exact stepA x X c t arg2 harg2 h
  · exact stepB x X c t arg2 harg2 h
  · exact stepC x X c t arg2 harg2 h
  · exact stepD x X c t arg2 harg2 h
  · exact stepE x X c t arg2 harg2 h
  · exact stepF x X c t arg2 harg2 h
  · exact stepG x X c t arg2 harg2 h

end Cert.KernelIdeal.Hand
-- ==== Proof.KernelIdeal.Launch.lean ====
module

public import proofs.«01_k».proof.Proof.KernelIdeal.Kit
public import proofs.«01_k».proof.Proof.KernelIdeal.Body

@[expose] public section

/-! The program run: it ends, with the arguments unchanged, the counters at zero, and the result the fifty chunks' values. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's proof data: the temperature's array as found, its block left in place, the pieces of `Inv`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Inv (tmp m c) (xch m c) c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv (tmp m c) (xch m c) c t.val := by
  dsimp only [dats]; simp only [Fin.val_castSucc]
theorem Phi_succ (c : Dev nD) (t : Fin cfg0.N) : (dats m 0 c).Φ t.succ = Inv (tmp m c) (xch m c) c (t.val + 1) := by
  dsimp only [dats]; simp only [Fin.val_succ]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl, iblk_eq m c t]
  iintro ⟨HI, ⟨%W, -, HW⟩, %d, H2⟩
  iapply (step (tmp m c) (xch m c) c t (st0_0 t) (hstage0_0 ((cfg0.slots t 0).cast nbuf0_0)) W _)
  isplitr
  · iintro ⟨HI, H2, %W', HW⟩
    isplitl [HI]; · iexact HI
    isplitl [HW]
    · iexists W'
      isplitr; · ipureintro; exact fun _ _ => Or.inl trivial
      iexact HW
    iexact H2
  isplitl [HI]; · iexact HI
  isplitl [H2]; · iexact H2
  iexact HW

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is there before the first step, -/
theorem hin (c : Dev nD) : Pipeline.ΦDRV osem0 spec0 H0 R0 (V m) (V m) c ⊢ (dats m 0 c).Φ 0 := by
  rw [PhiV_eq, show (dats m 0 c).Φ 0 = Inv (tmp m c) (xch m c) c 0 from rfl]
  unfold Inv
  rw [fin_lo _ _ c 0 (by omega), show msSt (tmp m c) (xch m c) c 0 = _ from if_pos rfl,
    show rdSt (tmp m c) (xch m c) c 0 = iprop(FS c 0 ∗ FS c 1) from (if_neg (by omega)).trans (if_neg (by omega)),
    show wrSt (tmp m c) (xch m c) c 0 = iprop(FT c 0 ∗ FT c 1) from (if_neg (by omega)).trans (if_neg (by omega)),
    show (fun b => xSt (xch m c) c 0 b : Fin 50 → sProp 𝕄) = fun b => HX c b (xch m c) from funext fun b => if_neg (by omega),
    show (fun b => oSt (tmp m c) (xch m c) c 0 b : Fin 50 → sProp 𝕄) = fun b => HA c b from funext fun b => (if_neg (by omega)).trans (if_pos (Nat.zero_le _))]
  simp only [owns_whole]
  unfold FS FT
  iintro ⟨⟨HS0, HS1, HS2, HS3, HS4⟩, ⟨Hq0, Hq1, Hq2, Hq3⟩, Hx, Ho⟩
  ihave HS0 := (slots_in (F := F) c) $$ HS0
  icases HS0 with ⟨Ha0, Ha1⟩
  ihave HS1 := (tiles_in (F := F) c) $$ HS1
  icases HS1 with ⟨Hb0, Hb1⟩
  ihave Hx := (xs_in c (V m c main_v0)) $$ Hx
  ihave Ho := (os_in c (V m c main_v2)) $$ Ho
  iframe HS2 HS3 HS4 Hq0 Ha0 Hq1 Ha1 Hq2 Hb0 Hq3 Hb1 Hx Ho

/-- and what is there after the last is what the launch takes back. -/
theorem hout (c : Dev nD) : (dats m 0 c).Φ (Fin.last cfg0.N) ⊢ Pipeline.ΦDRV osem0 spec0 H0 R0 (V m) (G m) c := by
  rw [PhiV_eq, G_v2, show (dats m 0 c).Φ (Fin.last cfg0.N) = Inv (tmp m c) (xch m c) c grid0.N from rfl, show grid0.N = 100 by rw [N_0]]
  unfold Inv
  rw [fin_hi _ _ c 100 (by omega), ms_hi _ _ c 100 (by omega),
    show rdSt (tmp m c) (xch m c) c 100 = iprop(FS c 0 ∗ FS c 1) from (if_neg (by omega)).trans (if_neg (by omega)),
    show wrSt (tmp m c) (xch m c) c 100 = iprop(FT c 0 ∗ FT c 1) from (if_neg (by omega)).trans (if_neg (by omega)),
    show (fun b => xSt (xch m c) c 100 b : Fin 50 → sProp 𝕄) = fun b => HX c b (xch m c) from funext fun b => if_neg (by omega),
    show (fun b => oSt (tmp m c) (xch m c) c 100 b : Fin 50 → sProp 𝕄) = fun b => HO c b (Yv (tmp m c) (xch m c) b) from
      funext fun b => have := b.isLt; (if_neg (by omega)).trans ((if_neg (by omega)).trans (if_neg (by omega)))]
  simp only [owns_whole]
  unfold FS FT FIN
  iintro ⟨⟨HS2, HS3⟩, ⟨%f, HS4, -⟩, ⟨⟨Hq0, Ha0⟩, Hq1, Ha1⟩, ⟨⟨Hq2, Hb0⟩, Hq3, Hb1⟩, Hx, Ho⟩
  ihave HS0 := (slots_out (F := F) c) $$ [Ha0 Ha1]
  · iframe Ha0 Ha1
  ihave HS1 := (tiles_out (F := F) c) $$ [Hb0 Hb1]
  · iframe Hb0 Hb1
  ihave Hx := (show (bigSep Finset.univ fun b => HX c b (xch m c)) ⊢ _ from xs_out c (V m c main_v0)) $$ Hx
  ihave Ho := (os_out c (Yv (tmp m c) (xch m c))) $$ Ho
  isplitl [HS0 HS1 HS2 HS3 HS4]
  · isplitl [HS0]; · iexact HS0
    isplitl [HS1]; · iexact HS1
    isplitl [HS2]; · iexists _; iexact HS2
    isplitl [HS3]; · iexists _; iexact HS3
    iexists f; iexact HS4
  isplitl [Hq0 Hq1 Hq2 Hq3]
  · iframe Hq0 Hq1 Hq2 Hq3
  isplitl [Hx]; · iexact Hx
  iexact Ho

/-- The buffers after the last host operation. -/
abbrev Vend (c : Dev nD) : Valuation τ sig (Elt F) :=
  Pipeline.withArrays spec0 c (Pipeline.withR (V0 m c) R0 c (G m c)) fun w => (dats m 0 c).arrAt w cfg0.N

set_option backward.isDefEq.respectTransparency.types false in
set_option maxHeartbeats 800000 in
/-- The program's every run ends with each buffer no window stages at what the last host operation makes of what the
    region leaves, and every counter at zero. -/
theorem run_main : θ_run defs (onTc (τ := τ) (main (F := F))) (s₀ m ρ) (fun r =>
    (∀ c : Dev nD, ∀ b ∈ Pipeline.restRefs sig spec0, r.2.mem ((c : Thread nD τ).loc b)
        = StableHlo.after (List.flatten [hostOps1]) (Vend m c) (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := hin m) (hout := hout m)
    (Q' := _) (hQ' := fun _ h => ⟨fun c => (h.1 c).2, h.2⟩)

theorem not_v0 (b : Ref sig .tc) (h : b ∉ R0) (hw : ∀ w, Pipeline.arrRef spec0 w ≠ b) (c : Dev nD) : Vend m c (Proc.devRef .tc b) = V m c b :=
  (Pipeline.withArrays_of_ne _ c _ _ b hw).trans (Pipeline.withR_of_not_mem _ _ c _ b h)

/-- An argument ends as launched. -/
theorem end_arg (c : Dev nD) (b : Ref sig .tc) (h0 : b ≠ main_v0) (h1 : b ≠ main_v1) (h3 : b ≠ main_v3) (hR : b ∉ R0) (hw : ∀ w, Pipeline.arrRef spec0 w ≠ b) :
    StableHlo.after (List.flatten [hostOps1]) (Vend m c) (Proc.devRef .tc b) = m ((c : Thread nD τ).loc b) := by
  rw [StableHlo.after_of_forall_not_mem (b := Proc.devRef .tc b) _ _ (List.forall_iff_forall_mem.mp (by
    simp only [hostOps1, List.flatten_cons, List.flatten_nil, List.append_nil, List.Forall, StableHlo.unary_writes, Finset.mem_singleton]
    exact StableHlo.devRef_ne_of_ne h3))]
  exact (not_v0 m b hR hw c).trans (V_of_ne m c b h0 h1)

/-- The result is the gathered chunks, transposed. -/
theorem end_res (c : Dev nD) : StableHlo.after (List.flatten [hostOps1]) (Vend m c) (Proc.devRef .tc main_v3)
    = (transpose S128x100000 [1, 0] (Gv m c) transposes_S100000x128_S128x100000_1_0 : (⟨S128x100000, .f32⟩ : BufTy).Contents (Elt F)) := by
  have h : Vend m c (Proc.devRef .tc main_v2) = Gv m c :=
    (Pipeline.withArrays_of_ne _ c _ _ main_v2 (by decide)).trans ((Pipeline.withR_of_mem _ _ c _ main_v2 (by decide)).trans (G_v2 m c))
  rw [← h]
  rfl

/-- THE RUN: the arguments end unchanged, the result at the chunks' values, the counters at zero. -/
theorem run (m : (ℓ : Loc nD τ sig) → Buf (Elt F) ℓ) (ρ : Dev nD → PrngReg) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v3) = (transpose S128x100000 [1, 0] (Gv m c) transposes_S100000x128_S128x100000_1_0 : (⟨S128x100000, .f32⟩ : BufTy).Contents (Elt F)))
      ∧ r.2.sem = fun _ => 0) :=
  (θ_run defs _ _).mono (fun r ⟨h, hz⟩ => ⟨fun c => ⟨⟨
      (h c main_arg0 (Pipeline.mem_restRefs_of main_arg0 (by decide) (by decide))).trans (end_arg m c main_arg0 (by decide) (by decide) (by decide) (by decide) (by decide)),
      (h c main_arg1 (Pipeline.mem_restRefs_of main_arg1 (by decide) (by decide))).trans (end_arg m c main_arg1 (by decide) (by decide) (by decide) (by decide) (by decide)),
      (h c main_arg2 (Pipeline.mem_restRefs_of main_arg2 (by decide) (by decide))).trans (end_arg m c main_arg2 (by decide) (by decide) (by decide) (by decide) (by decide))⟩,
      (h c main_v3 (Pipeline.mem_restRefs_of main_v3 (by decide) (by decide))).trans (end_res m c)⟩, hz⟩) (run_main m ρ)

/-- THE FRAME: the arguments end unchanged, the counters at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).1, h.2⟩) (run m ρ)

end Cert.KernelIdeal.Hand
-- ==== Proof.KernelFrame.lean ====
/-
  The frame of the kernel on the machine's words, from the run of its idealized twin. The two printed programs are one
  text: their body tables and their `@main`s are the same terms, so what is proved for every float interpretation of
  the one is a statement of the other.
-/
module

public import proofs.«01_k».proof.Defs
public import proofs.«01_k».proof.Proof.KernelIdeal.Launch
public import proofs.«01_k».proof.Proof.Gen.Kernel

@[expose] public section

set_option maxRecDepth 16384
set_option maxHeartbeats 4000000

namespace Cert.Proof

open Idealize.ShloMosaic Idealize.SL.Sem

/-- The two programs' kernels have one body table. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- With the launch's own labels added, they still have one body table. -/
theorem defs_eq : Cert.Kernel.defs (F := Bits) = Cert.KernelIdeal.defs (F := Bits) :=
  congrArg (Pipeline.defs (Cert.KernelIdeal.pcfgs (F := Bits))) defs₀_eq

/-- From any memory with the counters at zero the kernel ends, nothing faults, the three arguments hold what they held
    and every counter is at zero. -/
theorem kernel_frame : @Cert.quiescent_Kernel Cert.Kernel.Gen.facts := fun m g _ => by
  have h := Cert.KernelIdeal.Hand.frame (F := Bits) m g
  rw [← defs_eq] at h
  exact h

/-- The same of the idealized kernel. -/
theorem kernelIdeal_frame : @Cert.quiescent_KernelIdeal Cert.KernelIdeal.Gen.facts := fun m g _ =>
  Cert.KernelIdeal.Hand.frame (F := Ideal) m g

end Cert.Proof
-- ==== Proof.Ref.Line.lean ====
/-
  Straight lines of host operations in single-assignment form: what each operation says of the contents the whole line
  leaves. A line whose operations each write one buffer, no later operation writing what an earlier one wrote or read,
  ends with every operation's equation `result = f operands` true of the FINAL contents, so that a long line is read as
  a conjunction of equations about one valuation and never as a nest of updates.
-/
module

public import Idealize.ShloMosaic.Lib.StableHlo.Run

@[expose] public section

noncomputable section

namespace Cert.Line

open Idealize.ShloMosaic Idealize.ShloMosaic.StableHlo Idealize.SL.Sem

variable {nD : Nat} {τ : Topo} {sig : RefSig} {Val : EltTy → Type} {Λ : Labels}

/-- One operation of a line with the buffer it writes and the buffers it reads. -/
structure Item (τ : Topo) (sig : RefSig) (Val : EltTy → Type) where
  op : HloOp τ sig Val
  dst : Ref sig .tc
  src : List (Ref sig .tc)

/-- The operation writes its one buffer, touches nothing but it and its operands, and determines what it writes. -/
structure Item.Ok (it : Item τ sig Val) : Prop where
  writes : it.op.writes = {Proc.devRef (τ := τ) .tc it.dst}
  bufs : it.op.bufs ⊆ tcRefs τ sig
  fresh : it.op.fresh = ∅

/-- The contents `V'` obey the operation: its result buffer holds the operation's value at contents that agree with
    `V'` on the operands. -/
def Item.Sat (it : Item τ sig Val) (V' : Valuation τ sig Val) : Prop :=
  ∃ V : Valuation τ sig Val, (∀ x ∈ it.src, V' (Proc.devRef .tc x) = V (Proc.devRef .tc x)) ∧
    V' (Proc.devRef .tc it.dst) = it.op.result V (Proc.devRef .tc it.dst)

/-- The single-assignment form, over the names alone: no operation reads its own result, and no later one writes what it
    wrote or read. -/
def Ssa : List (Ref sig .tc × List (Ref sig .tc)) → Prop
  | [] => True
  | r :: l => r.1 ∉ r.2 ∧ (∀ r' ∈ l, r'.1 ≠ r.1 ∧ r'.1 ∉ r.2) ∧ Ssa l

/-- The names of an operation. -/
def Item.names (it : Item τ sig Val) : Ref sig .tc × List (Ref sig .tc) := (it.dst, it.src)

/-- After a line in single-assignment form the final contents obey every operation of it. -/
theorem sat_after (l : List (Item τ sig Val)) (hok : ∀ it ∈ l, it.Ok) (hs : Ssa (l.map Item.names)) (V : Valuation τ sig Val) :
    ∀ it ∈ l, it.Sat (after (l.map Item.op) V) := by
  induction l generalizing V with
  | nil => intro it h; exact nomatch h
  | cons a l ih =>
    obtain ⟨hself, hlater, hrest⟩ := hs
    intro it h
    rcases List.mem_cons.mp h with rfl | h
    · have keep : ∀ x : Ref sig .tc, (∀ b ∈ l, b.dst ≠ x) →
          after (l.map Item.op) (it.op.result V) (Proc.devRef .tc x) = it.op.result V (Proc.devRef .tc x) := by
        intro x hx
        refine after_of_forall_not_mem _ _ fun op hop hm => ?_
        obtain ⟨b, hb, rfl⟩ := List.mem_map.mp hop
        rw [(hok b (List.mem_cons_of_mem _ hb)).writes, Finset.mem_singleton] at hm
        exact hx b hb (Proc.devRef_injective _ hm).symm
      refine ⟨V, fun x hx => ?_, ?_⟩
      · rw [List.map_cons, after_cons, keep x fun b hb e => (hlater b.names (List.mem_map_of_mem hb)).2 (by
          show b.dst ∈ _; rw [e]; exact hx)]
        refine HloOp.result_of_not_mem _ _ fun hm => ?_
        rw [(hok it List.mem_cons_self).writes, Finset.mem_singleton] at hm
        exact hself (by show it.dst ∈ _; rw [← Proc.devRef_injective _ hm]; exact hx)
      · rw [List.map_cons, after_cons, keep it.dst fun b hb => (hlater b.names (List.mem_map_of_mem hb)).1]
    · rw [List.map_cons, after_cons]
      exact ih (fun b hb => hok b (List.mem_cons_of_mem _ hb)) hrest _ it h

/-- The program `p` is the line `l`, each operation well formed, and contents that obey every operation have `E`. -/
structure Chain (p : Prog (TpuEff nD τ sig Val Λ .tc) PUnit) (l : List (Item τ sig Val)) (E : Valuation τ sig Val → Prop) : Prop where
  eq : p = seq (l.map Item.op)
  ok : ∀ it ∈ l, it.Ok
  sat : ∀ V, (∀ it ∈ l, it.Sat V) → E V

/-- What an operation contributes: it is well formed, and contents that obey it have `e`. -/
structure Step (it : Item τ sig Val) (e : Valuation τ sig Val → Prop) : Prop where
  ok : it.Ok
  sat : ∀ V, it.Sat V → e V

theorem Chain.nil : Chain (pure ⟨⟩ : Prog (TpuEff nD τ sig Val Λ .tc) PUnit) ([] : List (Item τ sig Val)) fun _ => True :=
  ⟨rfl, fun _ h => (List.not_mem_nil h).elim, fun _ _ => trivial⟩

theorem Chain.last {op : HloOp τ sig Val} {y : Ref sig .tc} {xs : List (Ref sig .tc)} {e : Valuation τ sig Val → Prop}
    (h : Step ⟨op, y, xs⟩ e) :
    Chain (hlo rfl op fun _ => .ret (⟨⟩ : PUnit) : Prog (TpuEff nD τ sig Val Λ .tc) PUnit) [⟨op, y, xs⟩] e :=
  ⟨(bind_pure _).symm, fun _ hm => (List.mem_singleton.mp hm) ▸ h.ok, fun V hV => h.sat V (hV _ List.mem_cons_self)⟩

theorem Chain.cons {op : HloOp τ sig Val} {y : Ref sig .tc} {xs : List (Ref sig .tc)} {e E : Valuation τ sig Val → Prop}
    {l : List (Item τ sig Val)} {k : Prog (TpuEff nD τ sig Val Λ .tc) PUnit} (h : Step ⟨op, y, xs⟩ e) (hk : Chain k l E) :
    Chain ((hlo rfl op fun _ => .ret (⟨⟩ : PUnit)) >>= fun _ => k) (⟨op, y, xs⟩ :: l) fun V => e V ∧ E V where
  eq := by rw [hk.eq]; rfl
  ok b hb := by
    rcases List.mem_cons.mp hb with rfl | hb
    · exact h.ok
    · exact hk.ok b hb
  sat V hV := ⟨h.sat V (hV _ List.mem_cons_self), hk.sat V fun b hb => hV b (List.mem_cons_of_mem _ hb)⟩

theorem Chain.append {p k : Prog (TpuEff nD τ sig Val Λ .tc) PUnit} {l l' : List (Item τ sig Val)}
    {E E' : Valuation τ sig Val → Prop} (h : Chain p l E) (hk : Chain k l' E') :
    Chain (p >>= fun _ => k) (l ++ l') fun V => E V ∧ E' V where
  eq := by rw [h.eq, hk.eq, List.map_append, seq_append]
  ok b hb := (List.mem_append.mp hb).elim (h.ok b) (hk.ok b)
  sat V hV := ⟨h.sat V fun b hb => hV b (List.mem_append_left _ hb), hk.sat V fun b hb => hV b (List.mem_append_right _ hb)⟩

/-- The equations may be replaced by what they imply. -/
theorem Chain.weaken {p : Prog (TpuEff nD τ sig Val Λ .tc) PUnit} {l : List (Item τ sig Val)}
    {E E' : Valuation τ sig Val → Prop} (h : Chain p l E) (hE : ∀ V, E V → E' V) : Chain p l E' :=
  ⟨h.eq, h.ok, fun V hV => hE V (h.sat V hV)⟩

/-! ## The operations -/

/-- What a typed reference's buffer holds, at the value's type. -/
def rd {T : BufTy} (V : Valuation τ sig Val) (x : TRef sig T) : T.Contents Val := x.ofBuf (V (Proc.devRef .tc x.ref))

theorem Step.nullary (y : Ref sig .tc) (v : y.ty.Contents Val)
    (hy : y.space ≠ .host ∧ (Proc.devRef (τ := τ) .tc y).isScoped = false) :
    Step ⟨StableHlo.nullary (τ := τ) y v hy, y, []⟩ fun V => V (Proc.devRef .tc y) = v where
  ok := ⟨rfl, nullary_bufs_sub y v hy, rfl⟩
  sat V := by rintro ⟨W, -, h⟩; exact h.trans (nullary_result y v hy W)

theorem Step.unary (x y : Ref sig .tc) (f : x.ty.Contents Val → y.ty.Contents Val)
    (hx : x.space ≠ .host ∧ (Proc.devRef (τ := τ) .tc x).isScoped = false)
    (hy : y.space ≠ .host ∧ (Proc.devRef (τ := τ) .tc y).isScoped = false) :
    Step ⟨StableHlo.unary (τ := τ) x y f hx hy, y, [x]⟩ fun V => V (Proc.devRef .tc y) = f (V (Proc.devRef .tc x)) where
  ok := ⟨rfl, unary_bufs_sub x y f hx hy, rfl⟩
  sat V := by
    rintro ⟨W, hs, h⟩
    exact h.trans ((unary_result x y f hx hy W).trans (congrArg f (hs x List.mem_cons_self).symm))

theorem Step.binary (a b y : Ref sig .tc) (f : a.ty.Contents Val → b.ty.Contents Val → y.ty.Contents Val)
    (ha : a.space ≠ .host ∧ (Proc.devRef (τ := τ) .tc a).isScoped = false)
    (hb : b.space ≠ .host ∧ (Proc.devRef (τ := τ) .tc b).isScoped = false)
    (hy : y.space ≠ .host ∧ (Proc.devRef (τ := τ) .tc y).isScoped = false) :
    Step ⟨StableHlo.binary (τ := τ) a b y f ha hb hy, y, [a, b]⟩
      fun V => V (Proc.devRef .tc y) = f (V (Proc.devRef .tc a)) (V (Proc.devRef .tc b)) where
  ok := ⟨rfl, binary_bufs_sub a b y f ha hb hy, rfl⟩
  sat V := by
    rintro ⟨W, hs, h⟩
    exact h.trans ((binary_result a b y f ha hb hy W).trans
      (congrArg₂ f (hs a List.mem_cons_self).symm (hs b (List.mem_cons_of_mem _ List.mem_cons_self)).symm))

section Typed

variable {Tx Ta Tb Ty : BufTy}

theorem Step.tnullary (y : TRef sig Ty) (v : Ty.Contents Val) :
    Step ⟨TRef.nullary (τ := τ) y v, y.ref, []⟩ fun V => rd V y = v where
  ok := (Step.nullary y.ref _ y.dev).ok
  sat V h := by
    unfold rd; rw [(Step.nullary y.ref _ y.dev).sat V h, TRef.ofBuf_toBuf]

theorem Step.tunary (x : TRef sig Tx) (y : TRef sig Ty) (f : Tx.Contents Val → Ty.Contents Val) :
    Step ⟨TRef.unary (τ := τ) x y f, y.ref, [x.ref]⟩ fun V => rd V y = f (rd V x) where
  ok := (Step.unary x.ref y.ref _ x.dev y.dev).ok
  sat V h := by
    unfold rd; rw [(Step.unary x.ref y.ref _ x.dev y.dev).sat V h, TRef.ofBuf_toBuf]

theorem Step.tbinary (a : TRef sig Ta) (b : TRef sig Tb) (y : TRef sig Ty)
    (f : Ta.Contents Val → Tb.Contents Val → Ty.Contents Val) :
    Step ⟨TRef.binary (τ := τ) a b y f, y.ref, [a.ref, b.ref]⟩ fun V => rd V y = f (rd V a) (rd V b) where
  ok := (Step.binary a.ref b.ref y.ref _ a.dev b.dev y.dev).ok
  sat V h := by
    unfold rd; rw [(Step.binary a.ref b.ref y.ref _ a.dev b.dev y.dev).sat V h, TRef.ofBuf_toBuf]

theorem Step.treshape (x : TRef sig Tx) (y : TRef sig Ty) (he : Tx.elt = Ty.elt) (hn : Tx.shape.ShapeCasts Ty.shape) :
    Step ⟨TRef.reshape (τ := τ) (Val := Val) x y he hn, y.ref, [x.ref]⟩
      fun V => rd V y = fun i => he ▸ shapeCast Ty.shape (rd V x) hn i where
  ok := ⟨rfl, reshape_bufs_sub _ _ _ _ x.dev y.dev, rfl⟩
  sat V := by
    obtain ⟨x, rfl, hx, hx'⟩ := x
    obtain ⟨y, rfl, hy, hy'⟩ := y
    rintro ⟨W, hs, h⟩
    refine h.trans ((reshape_result x y he hn (TRef.dev ⟨x, rfl, hx, hx'⟩) (TRef.dev ⟨y, rfl, hy, hy'⟩) W).trans ?_)
    rw [← hs x List.mem_cons_self]; rfl

end Typed

/-! ## Operations on words, read at an index

A result is named from the right: `a + r = y` where the second operand holds `r`, so that a computation on words is
followed by rewriting with these equations from its operands on. -/

section Words

variable {F : FTy → Type} [FloatOps F] {S T : Shape}

/-- The word at an index of a buffer of words. -/
def wd (V : Valuation τ sig (Elt F)) (x : TRef sig ⟨S, .i32⟩) (i : S.Idx) : BitVec 32 := (rd V x : IVec S 32) i

theorem Step.add (a b y : TRef sig ⟨S, .i32⟩) :
    Step ⟨TRef.binary (τ := τ) (Val := Elt F) a b y addi, y.ref, [a.ref, b.ref]⟩
      fun V => ∀ i r, wd V b i = r → wd V a i + r = wd V y i where
  ok := (Step.tbinary a b y _).ok
  sat V h i r hr := hr ▸ (congrFun ((Step.tbinary a b y _).sat V h) i).symm

theorem Step.xor (a b y : TRef sig ⟨S, .i32⟩) :
    Step ⟨TRef.binary (τ := τ) (Val := Elt F) a b y xori, y.ref, [a.ref, b.ref]⟩
      fun V => ∀ i r, wd V b i = r → wd V a i ^^^ r = wd V y i where
  ok := (Step.tbinary a b y _).ok
  sat V h i r hr := hr ▸ (congrFun ((Step.tbinary a b y _).sat V h) i).symm

theorem Step.or (a b y : TRef sig ⟨S, .i32⟩) :
    Step ⟨TRef.binary (τ := τ) (Val := Elt F) a b y ori, y.ref, [a.ref, b.ref]⟩
      fun V => ∀ i r, wd V b i = r → wd V a i ||| r = wd V y i where
  ok := (Step.tbinary a b y _).ok
  sat V h i r hr := hr ▸ (congrFun ((Step.tbinary a b y _).sat V h) i).symm

theorem Step.shl (a b y : TRef sig ⟨S, .i32⟩) :
    Step ⟨TRef.binary (τ := τ) (Val := Elt F) a b y Host.shli, y.ref, [a.ref, b.ref]⟩
      fun V => ∀ i r, wd V b i = r → r.toNat < 32 → wd V a i <<< r = wd V y i where
  ok := (Step.tbinary a b y _).ok
  sat V h i r hr hlt := by
    subst hr; exact (if_pos hlt).symm.trans (congrFun ((Step.tbinary a b y _).sat V h) i).symm

theorem Step.shr (a b y : TRef sig ⟨S, .i32⟩) :
    Step ⟨TRef.binary (τ := τ) (Val := Elt F) a b y Host.shrui, y.ref, [a.ref, b.ref]⟩
      fun V => ∀ i r, wd V b i = r → r.toNat < 32 → wd V a i >>> r = wd V y i where
  ok := (Step.tbinary a b y _).ok
  sat V h i r hr hlt := by
    subst hr; exact (if_pos hlt).symm.trans (congrFun ((Step.tbinary a b y _).sat V h) i).symm

theorem Step.word (y : TRef sig ⟨S, .i32⟩) (b : BitVec 32) :
    Step ⟨TRef.nullary (τ := τ) (Val := Elt F) y (constantI S 32 b), y.ref, []⟩ fun V => ∀ i, wd V y i = b where
  ok := (Step.tnullary y _).ok
  sat V h i := congrFun ((Step.tnullary y _).sat V h) i

/-- A word spread over an array. -/
theorem Step.spread (x : TRef sig ⟨S, .i32⟩) (y : TRef sig ⟨T, .i32⟩) (d : Fin S.rank → Fin T.rank) (hd : S.BroadcastsInDim T d) :
    Step ⟨TRef.unary (τ := τ) (Val := Elt F) x y (broadcastInDim T d hd), y.ref, [x.ref]⟩
      fun V => ∀ i r, (∀ j, wd V x j = r) → wd V y i = r where
  ok := (Step.tunary x y _).ok
  sat V h i r hr := (congrFun ((Step.tunary x y _).sat V h) i).trans (hr _)

end Words

end Cert.Line

end
-- ==== Proof.Ref.Ops.lean ====
/-
  The reference's operations, collected off its text: `threefry`, `uniform` and `main` are each a line of host
  operations in single-assignment form, with the equation every operation contributes. The lists and the equations are
  found by unification against the printed text.
-/
module

public import proofs.«01_k».proof.Proof.Ref.Line
public import proofs.«01_k».proof.Proof.Gen.ReferenceIdeal

@[expose] public section

set_option maxRecDepth 16384
set_option maxHeartbeats 4000000

noncomputable section

namespace Cert.Ref

open Idealize.ShloMosaic Idealize.ShloMosaic.StableHlo Idealize.SL.Sem Cert.ReferenceIdeal Cert.Line

variable {F : FTy → Type} [FloatOps F]

/-- A program with its line and its equations. -/
structure Line {Λ : Labels} (p : Prog (TpuEff nD τ sig (Elt F) Λ .tc) PUnit) where
  items : List (Item τ sig (Elt F))
  eqs : Valuation τ sig (Elt F) → Prop
  chain : Chain p items eqs

section Threefry

variable (a0 a1 : TRef sig ⟨S_, .i32⟩) (a2 a3 : TRef sig ⟨S128x100000, .i32⟩) (φ : fn_threefry2x32.Bufs)

/-- The cipher, the first 60 operations. -/
def tfLine0 : Line (F := F) (fn_threefry2x32.body_part0 (F := F) a0 a1 a2 a3 φ) := by
  apply Line.mk
  case chain =>
    unfold fn_threefry2x32.body_part0
    with_reducible repeat' first
      | exact Step.add _ _ _ | exact Step.xor _ _ _ | exact Step.or _ _ _ | exact Step.shl _ _ _ | exact Step.shr _ _ _
      | exact Step.word _ _ | exact Step.spread _ _ _ _
      | apply Chain.cons | exact Chain.nil | apply Chain.last

/-- The cipher, operations 61 to 120. -/
def tfLine1 : Line (F := F) (fn_threefry2x32.body_part1 (F := F) a0 a1 a2 a3 φ) := by
  apply Line.mk
  case chain =>
    unfold fn_threefry2x32.body_part1
    with_reducible repeat' first
      | exact Step.add _ _ _ | exact Step.xor _ _ _ | exact Step.or _ _ _ | exact Step.shl _ _ _ | exact Step.shr _ _ _
      | exact Step.word _ _ | exact Step.spread _ _ _ _
      | apply Chain.cons | exact Chain.nil | apply Chain.last

/-- The cipher, operations 121 to 180. -/
def tfLine2 : Line (F := F) (fn_threefry2x32.body_part2 (F := F) a0 a1 a2 a3 φ) := by
  apply Line.mk
  case chain =>
    unfold fn_threefry2x32.body_part2
    with_reducible repeat' first
      | exact Step.add _ _ _ | exact Step.xor _ _ _ | exact Step.or _ _ _ | exact Step.shl _ _ _ | exact Step.shr _ _ _
      | exact Step.word _ _ | exact Step.spread _ _ _ _
      | apply Chain.cons | exact Chain.nil | apply Chain.last

/-- The cipher, the rest. -/
def tfLine3 : Line (F := F) (fn_threefry2x32.body_part3 (F := F) a0 a1 a2 a3 φ) := by
  apply Line.mk
  case chain =>
    unfold fn_threefry2x32.body_part3
    with_reducible repeat' first
      | exact Step.add _ _ _ | exact Step.xor _ _ _ | exact Step.or _ _ _ | exact Step.shl _ _ _ | exact Step.shr _ _ _
      | exact Step.word _ _ | exact Step.spread _ _ _ _
      | apply Chain.cons | exact Chain.nil | apply Chain.last

/-- The cipher whole. -/
def tfLine : Line (F := F) (fn_threefry2x32.body (F := F) a0 a1 a2 a3 φ) := by
  apply Line.mk
  case chain =>
    unfold fn_threefry2x32.body
    exact (tfLine0 a0 a1 a2 a3 φ).chain.append ((tfLine1 a0 a1 a2 a3 φ).chain.append
      ((tfLine2 a0 a1 a2 a3 φ).chain.append (tfLine3 a0 a1 a2 a3 φ).chain))

end Threefry

/-- The uniform draw over its arguments and one call's buffers. -/
def uniLine (a0 : TRef sig ⟨S2, .i32⟩) (a1 a2 : TRef sig ⟨S_, .f32⟩) (φ : fn_uniform.Bufs) :
    Line (F := F) (fn_uniform.body (F := F) a0 a1 a2 φ) := by
  apply Line.mk
  case chain =>
    unfold fn_uniform.body
    with_reducible repeat' first
      | exact Step.tnullary _ _ | exact Step.tunary _ _ _ | exact Step.tbinary _ _ _ _ | exact Step.treshape _ _ _ _
      | apply Chain.cons | exact Chain.nil | apply Chain.append (tfLine _ _ _ _ _).chain

/-- The reference whole. -/
def mainLine (c : Dev nD) : Line (F := F) (main (F := F) c) := by
  apply Line.mk
  case chain =>
    unfold main
    with_reducible repeat' first
      | exact Step.nullary _ _ _ | exact Step.unary _ _ _ _ _ | exact Step.binary _ _ _ _ _ _ _
      | apply Chain.cons | exact Chain.nil | apply Chain.append (uniLine _ _ _ _).chain

end Cert.Ref

end
-- ==== Proof.Ref.Run.lean ====
/-
  The reference's run: its line is in single-assignment form (checked on the buffers' numbers), so every execution ends
  with contents that obey every operation's equation, the arguments unchanged.
-/
module

public import proofs.«01_k».proof.Proof.Ref.Ops
public import Idealize.ShloMosaic.PureOps.Ideal

@[expose] public section

set_option maxRecDepth 16384

noncomputable section

namespace Cert.Ref

open Idealize.ShloMosaic Idealize.ShloMosaic.StableHlo Idealize.SL.Sem Cert.ReferenceIdeal Cert.Line

variable {F : FTy → Type} [FloatOps F]

/-- A buffer's number. -/
def code (r : Ref sig .tc) : ℕ := r.idx.val

/-- The single-assignment form on numbers, as a test: the arguments are numbered below `3` and never written. -/
def ssaB : List (ℕ × List ℕ) → Bool
  | [] => true
  | r :: l => (!r.2.contains r.1) && (l.all fun r' => r'.1 != r.1 && !r.2.contains r'.1) && ssaB l

/-- The test passed on the numbers gives the form on the references. -/
theorem ssa_of_ssaB : ∀ l : List (Ref sig .tc × List (Ref sig .tc)),
    ssaB (l.map fun r => (code r.1, r.2.map code)) = true → Ssa l
  | [], _ => trivial
  | r :: l, h => by
    simp only [List.map_cons, ssaB, Bool.and_eq_true, Bool.not_eq_true', List.all_eq_true, List.contains_eq_mem,
      decide_eq_false_iff_not, bne_iff_ne, List.mem_map, forall_exists_index, and_imp] at h
    obtain ⟨⟨h1, h2⟩, h3⟩ := h
    refine ⟨fun hm => h1 ⟨_, hm, rfl⟩, fun r' hr' => ⟨fun e => ?_, fun hm => ?_⟩, ssa_of_ssaB l h3⟩
    · exact (h2 _ r' hr' rfl).1 (congrArg code e)
    · exact (h2 _ r' hr' rfl).2 ⟨_, hm, rfl⟩

/-- The line's names, at any one choice of the float values. -/
def names : List (Ref sig .tc × List (Ref sig .tc)) := (mainLine (F := Ideal) 0).items.map Item.names

theorem names_eq (c : Dev nD) : (mainLine (F := F) c).items.map Item.names = names := rfl

theorem names_ssa : Ssa names := ssa_of_ssaB _ (by decide +kernel)

theorem names_args : ∀ r ∈ names, r.1 ≠ main_arg0 ∧ r.1 ≠ main_arg1 ∧ r.1 ≠ main_arg2 := by
  have h : (names.all fun r => code r.1 != code main_arg0 && code r.1 != code main_arg1 && code r.1 != code main_arg2) = true := by
    decide +kernel
  intro r hr
  have := List.all_eq_true.mp h r hr
  simp only [Bool.and_eq_true, bne_iff_ne] at this
  exact ⟨fun e => this.1.1 (congrArg code e), fun e => this.1.2 (congrArg code e), fun e => this.2 (congrArg code e)⟩

/-- The operations. -/
abbrev ops (c : Dev nD) : List (HloOp τ sig (Elt F)) := (mainLine (F := F) c).items.map Item.op

/-- Nothing is scoped. -/
theorem scopedRefs_eq : (Finset.univ.filter fun b : Ref sig .tc => b.isScoped) = ∅ := by decide +kernel
theorem scopedSems_eq : (Finset.univ.filter fun sm : SemLoc sig => sm.isScoped .tc) = ∅ := by decide

/-- A buffer no operation writes is left alone. -/
theorem after_arg (c : Dev nD) (V : Valuation τ sig (Elt F)) (r : Ref sig .tc) (hr : ∀ n ∈ names, n.1 ≠ r) :
    after (ops (F := F) c) V (Proc.devRef .tc r) = V (Proc.devRef .tc r) := by
  refine after_of_forall_not_mem _ _ fun op hop hm => ?_
  obtain ⟨b, hb, rfl⟩ := List.mem_map.mp hop
  rw [((mainLine c).chain.ok b hb).writes, Finset.mem_singleton] at hm
  exact hr b.names (names_eq (F := F) c ▸ List.mem_map_of_mem hb) (Proc.devRef_injective _ hm).symm

/-- The final contents from the launch's. -/
def fin (m : (ℓ : Loc nD τ sig) → Buf (Elt F) ℓ) (c : Dev nD) : Valuation τ sig (Elt F) := after (ops c) (launchContents m c)

/-- The final contents obey every equation. -/
theorem fin_eqs (m : (ℓ : Loc nD τ sig) → Buf (Elt F) ℓ) (c : Dev nD) : (mainLine (F := F) c).eqs (fin m c) :=
  (mainLine c).chain.sat _ (sat_after _ (mainLine c).chain.ok (by rw [names_eq]; exact names_ssa) _)

/-- The run: the result buffer holds the final contents' and the arguments what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = fin m c (Proc.devRef .tc main_v30)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨h c main_v30,
      (h c main_arg0).trans (after_arg c _ _ fun n hn => (names_args n hn).1),
      (h c main_arg1).trans (after_arg c _ _ fun n hn => (names_args n hn).2.1),
      (h c main_arg2).trans (after_arg c _ _ fun n hn => (names_args n hn).2.2)⟩)
    (run_seq scopedRefs_eq scopedSems_eq defs main (fun c => ops c) (fun c => (mainLine c).chain.eq)
      (fun c => List.forall_iff_forall_mem.mpr fun op hop => by
        obtain ⟨b, hb, rfl⟩ := List.mem_map.mp hop; exact ((mainLine c).chain.ok b hb).bufs) m ρ
      (fun c op hop => by obtain ⟨b, hb, rfl⟩ := List.mem_map.mp hop; exact ((mainLine c).chain.ok b hb).fresh))

/-- The arguments in the final contents. -/
theorem fin_arg0 (m : (ℓ : Loc nD τ sig) → Buf (Elt F) ℓ) (c : Dev nD) :
    fin m c (Proc.devRef .tc main_arg0) = m ((c.tc : Thread nD τ).loc main_arg0) :=
  after_arg c _ _ fun n hn => (names_args n hn).1
theorem fin_arg1 (m : (ℓ : Loc nD τ sig) → Buf (Elt F) ℓ) (c : Dev nD) :
    fin m c (Proc.devRef .tc main_arg1) = m ((c.tc : Thread nD τ).loc main_arg1) :=
  after_arg c _ _ fun n hn => (names_args n hn).2.1

end Cert.Ref

end
-- ==== Proof.Value.Online.lean ====
/-
  The online softmax over the extended reals. A row of finite numbers is met piece by piece; `top z n` is the greatest of
  the first `n` and `tot z n m` the sum of `exp (z q - m)` over them. Rescaled to a new maximum the old sum is the sum
  against the new maximum, whatever the pieces, and eight interleaved rows make the whole one.
-/
module

public import Idealize.ShloMosaic.PureOps.Ideal

@[expose] public section

noncomputable section

namespace Cert.Online

open Idealize.ShloMosaic Finset

/-- The greatest of the first `n`, -/
def top (z : ℕ → ℝ) (n : ℕ) : EReal := (range n).sup fun q => (z q : EReal)
/-- and the sum of the exponentials against `m`. -/
def tot (z : ℕ → ℝ) (n : ℕ) (m : EReal) : EReal := ∑ q ∈ range n, Ideal.exp (z q - m)

theorem exp_sub (a b : ℝ) : Ideal.exp ((a : EReal) - b) = (Real.exp (a - b) : ℝ) := by
  rw [← EReal.coe_sub]; rfl

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- The greatest over the numbers below `n`, said of `Fin n`. -/
theorem sup_fin (n : ℕ) (f : ℕ → EReal) : (univ.sup fun i : Fin n => f i.val) = (range n).sup f :=
  le_antisymm (Finset.sup_le fun i _ => Finset.le_sup (f := f) (Finset.mem_range.mpr i.isLt))
    (Finset.sup_le fun i hi => Finset.le_sup (f := fun i : Fin n => f i.val) (Finset.mem_univ ⟨i, Finset.mem_range.mp hi⟩))

/-- The greatest of at least one is a number. -/
theorem top_coe (z : ℕ → ℝ) {n : ℕ} (hn : 0 < n) : ∃ m : ℝ, top z n = m := by
  obtain ⟨q, -, hq⟩ := exists_mem_eq_sup (range n) ⟨0, mem_range.mpr hn⟩ fun q => (z q : EReal)
  exact ⟨z q, hq⟩

/-- Against a number the sum is a number. -/
theorem tot_coe (z : ℕ → ℝ) (n : ℕ) (m : ℝ) : tot z n m = ((∑ q ∈ range n, Real.exp (z q - m) : ℝ) : EReal) := by
  unfold tot
  rw [coe_sum]
  exact sum_congr rfl fun q _ => exp_sub _ _

/-- The sum against the greatest, rescaled, is the sum against the new maximum. -/
theorem rescale (z : ℕ → ℝ) (n : ℕ) (m : ℝ) : tot z n (top z n) * Ideal.exp (top z n - m) = tot z n m := by
  rcases Nat.eq_zero_or_pos n with rfl | hn
  · simp [tot]
  · obtain ⟨μ, hμ⟩ := top_coe z hn
    rw [hμ, exp_sub, tot_coe, tot_coe, ← EReal.coe_mul, sum_mul]
    refine congrArg _ (sum_congr rfl fun q _ => ?_)
    rw [← Real.exp_add]; congr 1; ring

theorem top_add (z : ℕ → ℝ) (n k : ℕ) : top z (n + k) = max (top z n) ((range k).sup fun p => (z (n + p) : EReal)) := by
  unfold top
  rw [range_add_eq_union, sup_union, sup_map]
  rfl

theorem tot_add (z : ℕ → ℝ) (n k : ℕ) (m : EReal) : tot z (n + k) m = tot z n m + ∑ p ∈ range k, Ideal.exp (z (n + p) - m) := by
  unfold tot
  exact sum_range_add _ _ _

/-- One piece more: the running sum, rescaled, plus the piece against the new maximum. -/
theorem step (z : ℕ → ℝ) (n k : ℕ) (hk : 0 < k) :
    tot z n (top z n) * Ideal.exp (top z n - top z (n + k)) + ∑ p ∈ range k, Ideal.exp (z (n + p) - top z (n + k))
      = tot z (n + k) (top z (n + k)) := by
  obtain ⟨m, hm⟩ := top_coe z (Nat.add_pos_right n hk)
  rw [tot_add, hm, rescale]

theorem sum_eight {α : Type*} [AddCommMonoid α] (f : ℕ → α) (n : ℕ) :
    ∑ a : Fin 8, ∑ q ∈ range n, f (8 * q + a.val) = ∑ i ∈ range (8 * n), f i := by
  induction n with
  | zero => simp
  | succ n ih =>
    simp only [sum_range_succ, sum_add_distrib, ih]
    rw [Nat.mul_succ, sum_range_add, Fin.sum_univ_eq_sum_range fun a => f (8 * n + a)]

/-- The greatest of eight interleaved rows is the whole's, -/
theorem top_eight (z : ℕ → ℝ) (n : ℕ) : (univ.sup fun a : Fin 8 => top (fun q => z (8 * q + a.val)) n) = top z (8 * n) := by
  refine le_antisymm (Finset.sup_le fun a _ => Finset.sup_le fun q hq => ?_) (Finset.sup_le fun i hi => ?_)
  · have ha := a.isLt
    have hq := mem_range.mp hq
    exact Finset.le_sup (f := fun i => (z i : EReal)) (mem_range.mpr (by omega))
  · have hi := mem_range.mp hi
    refine le_trans ?_ (Finset.le_sup (f := fun a : Fin 8 => top (fun q => z (8 * q + a.val)) n) (mem_univ ⟨i % 8, Nat.mod_lt _ (by decide)⟩))
    refine le_trans (le_of_eq ?_) (Finset.le_sup (f := fun q => ((z (8 * q + i % 8) : ℝ) : EReal)) (mem_range.mpr (show i / 8 < n by omega)))
    rw [Nat.div_add_mod]

/-- and so is the sum of their sums, each rescaled to the whole's greatest. -/
theorem tot_eight (z : ℕ → ℝ) {n : ℕ} (hn : 0 < n) :
    (∑ a : Fin 8, tot (fun q => z (8 * q + a.val)) n (top (fun q => z (8 * q + a.val)) n)
        * Ideal.exp (top (fun q => z (8 * q + a.val)) n - top z (8 * n)))
      = tot z (8 * n) (top z (8 * n)) := by
  obtain ⟨m, hm⟩ := top_coe z (Nat.mul_pos (by decide : 0 < 8) hn)
  rw [hm]
  simp only [rescale]
  exact sum_eight (fun i => Ideal.exp (z i - m)) n

/-- The sum over at least one is not zero. -/
theorem tot_ne_zero (z : ℕ → ℝ) {n : ℕ} (hn : 0 < n) : tot z n (top z n) ≠ 0 := by
  obtain ⟨m, hm⟩ := top_coe z hn
  rw [hm, tot_coe]
  exact_mod_cast (sum_pos (fun q _ => Real.exp_pos _) ⟨0, mem_range.mpr hn⟩).ne'

end Cert.Online

end
-- ==== Proof.Value.Draw.lean ====
/-
  The noise over the extended reals: from a random word the draw `f` in `[1, 2)`, the uniform `f - 1`, and the Gumbel noise
  `-log (-log (u + ε) + ε)`, which is a number whatever the word.
-/
module

public import Idealize.ShloMosaic.PureOps.Ideal.Laws

@[expose] public section

noncomputable section

namespace Cert.Draw

open Idealize.ShloMosaic

/-- The float of a random word: its upper 23 bits as the fraction, the exponent of `1`. -/
def draw (w : BitVec 32) : EReal := Ideal.ofBits .f32 (w >>> 9 ||| 1065353216#32)

theorem word_nat (w : BitVec 32) : (w >>> 9 ||| 1065353216#32).toNat = 127 * 2 ^ 23 + w.toNat / 512 := by
  have h : w.toNat / 512 < 2 ^ 23 := by have := w.isLt; omega
  have : 127 * 2 ^ 23 + w.toNat / 512 = 127 * 2 ^ 23 ||| w.toNat / 512 := by
    have := Nat.two_pow_add_eq_or_of_lt h 127
    rw [Nat.mul_comm] at this; exact this
  rw [this, BitVec.toNat_or, BitVec.toNat_ushiftRight, Nat.shiftRight_eq_div_pow, Nat.or_comm]
  rfl

theorem one_eq : Ideal.ofBits .f32 0x3F800000#32 = 1 := by simp [Ideal.ofBits, Ideal.ieee, -EReal.coe_mul]; norm_num
theorem bot_eq : Ideal.ofBits .f32 0xFF800000#32 = ⊥ := by simp [Ideal.ofBits, Ideal.ieee]
theorem top_eq : Ideal.ofBits .f32 0x7F800000#32 = ⊤ := by simp [Ideal.ofBits, Ideal.ieee]

/-- The draw lies in `[1, 2)`, a step below `2`. -/
theorem draw_real (w : BitVec 32) : ∃ r : ℝ, draw w = r ∧ 1 ≤ r ∧ r ≤ 2 - 2 ^ (-23 : ℤ) := by
  set v := w >>> 9 ||| 1065353216#32 with hv
  have hn : v.toNat = 127 * 2 ^ 23 + w.toNat / 512 := word_nat w
  have hq : w.toNat / 512 < 2 ^ 23 := by have := w.isLt; omega
  have hs : v.extractLsb' 31 1 = 0#1 := by
    apply BitVec.eq_of_toNat_eq
    rw [BitVec.extractLsb'_toNat, hn, Nat.shiftRight_eq_div_pow]
    show _ = 0
    omega
  have he : (v.extractLsb' 23 8).toNat = 127 := by
    rw [BitVec.extractLsb'_toNat, hn, Nat.shiftRight_eq_div_pow]
    omega
  have hf : (v.extractLsb' 0 23).toNat = w.toNat / 512 := by
    rw [BitVec.extractLsb'_toNat, hn, Nat.shiftRight_eq_div_pow]
    omega
  refine ⟨(2 ^ 23 + (w.toNat / 512 : ℕ)) * 2 ^ (-23 : ℤ), ?_, ?_, ?_⟩
  · show Ideal.ieee 8 23 v = _
    unfold Ideal.ieee
    simp only [Nat.reduceAdd]
    rw [hs, he, hf]
    norm_num
  · have : (0 : ℝ) ≤ (w.toNat / 512 : ℕ) := Nat.cast_nonneg _
    norm_num at this ⊢
    linarith
  · have h : w.toNat / 512 ≤ 8388607 := by omega
    have h' : ((w.toNat / 512 : ℕ) : ℝ) ≤ 8388607 := by exact_mod_cast h
    norm_num
    linarith

/-- The small number added before each logarithm. -/
def eps : EReal := Ideal.ofBits .f32 0x1E3CE508#32

theorem eps_real : ∃ e : ℝ, eps = e ∧ 0 < e ∧ e < 2 ^ (-24 : ℤ) := by
  refine ⟨12379400 * 2 ^ (-90 : ℤ), ?_, by positivity, by norm_num⟩
  simp [eps, Ideal.ofBits, Ideal.ieee, -EReal.coe_mul]

/-- The Gumbel noise of a random word. -/
def gum (w : BitVec 32) : EReal := -Ideal.log (-Ideal.log (draw w - 1 + eps) + eps)

theorem log_real {r : ℝ} (h : 0 < r) : Ideal.log (r : EReal) = (Real.log r : ℝ) := if_neg (not_le.mpr h)

/-- The noise is a number. -/
theorem gum_real (w : BitVec 32) : ∃ g : ℝ, gum w = g := by
  obtain ⟨r, hr, h1, h2⟩ := draw_real w
  obtain ⟨e, he, h3, h4⟩ := eps_real
  have hu : draw w - 1 + eps = ((r - 1 + e : ℝ) : EReal) := by
    rw [hr, he]; norm_cast
  have hpos : 0 < r - 1 + e := by linarith
  have hlt : r - 1 + e < 1 := by
    have : (2 : ℝ) ^ (-24 : ℤ) < 2 ^ (-23 : ℤ) := by norm_num
    linarith
  have hl : Real.log (r - 1 + e) < 0 := Real.log_neg hpos hlt
  refine ⟨-Real.log (-Real.log (r - 1 + e) + e), ?_⟩
  unfold gum
  rw [hu, log_real hpos, he, ← EReal.coe_neg, ← EReal.coe_add, log_real (by linarith), ← EReal.coe_neg]

end Cert.Draw

end
-- ==== Proof.Value.KernelFold.lean ====
/-
  The kernel's running maximum and sum over the extended reals: lane by lane and sublane by sublane they are the greatest
  and the sum of the exponentials of the rows met so far, and at the end the two rows of 128 hold the whole column's
  greatest and the reciprocal of its sum.
-/
module

public import proofs.«01_k».proof.Proof.Value.Online
public import proofs.«01_k».proof.Proof.Value.Draw
public import proofs.«01_k».proof.Proof.KernelIdeal.Inv
public import Idealize.ShloMosaic.Lib.Pipeline.Value

@[expose] public section

set_option maxRecDepth 16384

noncomputable section

namespace Cert.KernelIdeal.Hand

open Idealize.ShloMosaic Idealize.ShloMosaic.ValueIdx Cert.KernelIdeal Cert.KernelIdeal.Gen Cert.Online Cert.Draw

/-- The rows of one sublane. -/
abbrev every8 (Z : ℕ → ℝ) (a : Fin 8) : ℕ → ℝ := fun q => Z (8 * q + a.val)

/-- A block of 400 rows seen as 50 groups of eight. -/
theorem groups_apply (z : FVec Ideal S400x128 .f32) (p : Fin 50) (a : Fin 8) (l : Fin 128) :
    shapeCast S50x8x128 z shapeCasts_S400x128_S50x8x128 (ix3 p a l)
      = z (ix2 (n0 := 400) (n1 := 128) ⟨8 * p.val + a.val, by omega⟩ l) := by
  refine shapeCast_apply _ _ _ _ ?_
  rw [Shape.rowMajor_val_three, Shape.rowMajor_val_two]
  show (8 * p.val + a.val) * 128 + l.val = (p.val * 8 + a.val) * 128 + l.val
  ring

theorem lift_groups (p : Fin 50) (a : Fin 8) (l : Fin 128) :
    (reduces_S50x8x128_S8x128).lift (ix2 (n0 := 8) (n1 := 128) a l) p = ix3 (n0 := 50) (n1 := 8) (n2 := 128) p a l := by
  funext c; match c with | ⟨0, _⟩ => rfl | ⟨1, _⟩ => rfl | ⟨2, _⟩ => rfl

theorem lift_rows (a : Fin 8) (l : Fin 128) :
    (reduces_S8x128_S128).lift (ix1 (n := 128) l) a = ix2 (n0 := 8) (n1 := 128) a l := by
  funext c; match c with | ⟨0, _⟩ => rfl | ⟨1, _⟩ => rfl

/-- The greatest over the 50 groups, -/
theorem max_groups (src : FVec Ideal S50x8x128 .f32) (hφ) (hacc) (a : Fin 8) (l : Fin 128) :
    multiReduction .maximumf [0] S8x128 src 0xFF800000#32 reduces_S50x8x128_S8x128 hφ hacc (ix2 a l)
      = Finset.univ.sup fun p : Fin 50 => src (ix3 p a l) := by
  refine (Ideal.multiReduction_maximumf_single _ _ _ _ _ _).trans ?_
  rw [show FloatOps.ofBits (F := Ideal) .f32 0xFF800000#32 = ⊥ from bot_eq]
  exact congrArg (fun f => Finset.fold max ⊥ f (Finset.univ : Finset (Fin 50))) (funext fun p => congrArg src (lift_groups p a l))

/-- the sum over them, -/
theorem sum_groups (src : FVec Ideal S50x8x128 .f32) (hφ) (hacc) (a : Fin 8) (l : Fin 128) :
    multiReduction .add [0] S8x128 src 0x00000000#32 reduces_S50x8x128_S8x128 hφ hacc (ix2 a l)
      = ∑ p : Fin 50, src (ix3 p a l) :=
  (Ideal.multiReduction_add_single _ _ _ _ _ _).trans (Finset.sum_congr rfl fun p _ => congrArg src (lift_groups p a l))

/-- the greatest over the eight sublanes, -/
theorem max_rows (src : FVec Ideal S8x128 .f32) (hφ) (hacc) (l : Fin 128) :
    multiReduction .maximumf [0] S128 src 0xFF800000#32 reduces_S8x128_S128 hφ hacc (ix1 l)
      = Finset.univ.sup fun a : Fin 8 => src (ix2 a l) := by
  refine (Ideal.multiReduction_maximumf_single _ _ _ _ _ _).trans ?_
  rw [show FloatOps.ofBits (F := Ideal) .f32 0xFF800000#32 = ⊥ from bot_eq]
  exact congrArg (fun f => Finset.fold max ⊥ f (Finset.univ : Finset (Fin 8))) (funext fun a => congrArg src (lift_rows a l))

/-- and the sum over them. -/
theorem sum_rows (src : FVec Ideal S8x128 .f32) (hφ) (hacc) (l : Fin 128) :
    multiReduction .add [0] S128 src 0x00000000#32 reduces_S8x128_S128 hφ hacc (ix1 l) = ∑ a : Fin 8, src (ix2 a l) :=
  (Ideal.multiReduction_add_single _ _ _ _ _ _).trans (Finset.sum_congr rfl fun a _ => congrArg src (lift_rows a l))

/-- The running pair at sublane `a` and lane `l` stands for the first `n` rows of the sublane. -/
def Holds (Z : Fin 128 → ℕ → ℝ) (n : ℕ) (m s : Vec Ideal S8x128 .f32) : Prop :=
  ∀ (a : Fin 8) (l : Fin 128), m (ix2 a l) = top (every8 (Z l) a) n
    ∧ s (ix2 a l) = tot (every8 (Z l) a) n (top (every8 (Z l) a) n)

/-- One block more. -/
theorem holds_block (Z : Fin 128 → ℕ → ℝ) (n : ℕ) (m s : Vec Ideal S8x128 .f32) (z : FVec Ideal S400x128 .f32) (h : Holds Z n m s)
    (hz : ∀ (p : Fin 400) (l : Fin 128), z (ix2 p l) = (Z l (8 * n + p.val) : ℝ)) : Holds Z (n + 50) (mN m z) (sN m s z) := by
  have row : ∀ (p : Fin 50) (a : Fin 8) (l : Fin 128), shapeCast S50x8x128 z shapeCasts_S400x128_S50x8x128 (ix3 p a l)
      = (every8 (Z l) a (n + p.val) : ℝ) := fun p a l => by
    rw [groups_apply, hz]
    refine congrArg (fun i => ((Z l i : ℝ) : EReal)) ?_
    show 8 * n + (8 * p.val + a.val) = 8 * (n + p.val) + a.val
    ring
  have hm : ∀ (a : Fin 8) (l : Fin 128), mN m z (ix2 a l) = top (every8 (Z l) a) (n + 50) := fun a l => by
    show max (m (ix2 a l)) _ = _
    rw [top_add, (h a l).1]
    refine congrArg (max _) ((max_groups _ _ _ a l).trans ?_)
    refine Eq.trans ?_ (sup_fin 50 fun p => ((every8 (Z l) a (n + p) : ℝ) : EReal))
    exact congrArg (Finset.univ : Finset (Fin 50)).sup (funext fun p => row p a l)
  refine fun a l => ⟨hm a l, ?_⟩
  show s (ix2 a l) * Ideal.exp (m (ix2 a l) - mN m z (ix2 a l)) + _ = _
  rw [hm a l, (h a l).1, (h a l).2, ← step _ _ 50 (by decide),
    ← Fin.sum_univ_eq_sum_range (fun p => Ideal.exp (((every8 (Z l) a (n + p) : ℝ) : EReal) - top (every8 (Z l) a) (n + 50))) 50]
  refine congrArg _ ((sum_groups _ _ _ a l).trans (Finset.sum_congr rfl fun p _ => ?_))
  have e : broadcastTo S50x8x128 (shapeCast S1x8x128 (mN m z) shapeCasts_S8x128_S1x8x128) broadcasts_S1x8x128_S50x8x128 (ix3 p a l)
      = top (every8 (Z l) a) (n + 50) := by
    refine (broadcastTo_apply _ _ (ix3 p a l) (ix3 (n0 := 1) (n1 := 8) (n2 := 128) 0 a l) fun ax => ?_).trans
      ((shapeCast_ab_1ab_apply _ _ _ _ _).trans (hm a l))
    match ax with | ⟨0, _⟩ => rfl | ⟨1, _⟩ => rfl | ⟨2, _⟩ => rfl
  show Ideal.exp (shapeCast S50x8x128 z shapeCasts_S400x128_S50x8x128 (ix3 p a l) - broadcastTo S50x8x128 _ _ (ix3 p a l)) = _
  rw [row, e]

/-- Any number of blocks more. -/
theorem holds_blocks (Z : Fin 128 → ℕ → ℝ) (n : ℕ) (m s : Vec Ideal S8x128 .f32) (z : ℕ → FVec Ideal S400x128 .f32) (h : Holds Z n m s)
    (k : ℕ) (hz : ∀ j < k, ∀ (p : Fin 400) (l : Fin 128), z j (ix2 p l) = (Z l (8 * n + 400 * j + p.val) : ℝ)) :
    Holds Z (n + 50 * k) (mAt z m k) (sAt z m s k) := by
  induction k with
  | zero => exact h
  | succ k ih =>
    refine holds_block Z (n + 50 * k) _ _ _ (ih fun j hj => hz j (by omega)) fun p l => ?_
    rw [hz k (by omega)]
    refine congrArg (fun i => ((Z l i : ℝ) : EReal)) ?_
    ring

section Last

variable (Z : Fin 128 → ℕ → ℝ) (m s : Vec Ideal S8x128 .f32) (h : Holds Z 12500 m s)

include h

/-- The greatest over the eight sublanes is the column's, -/
theorem pay1_apply (u : Fin 1) (l : Fin 128) : k0_pay1 m (ix2 u l) = top (Z l) 100000 := by
  unfold k0_pay1
  refine (shapeCast_a_1a_apply _ _ u l).trans ((max_rows _ _ _ l).trans (Eq.trans ?_ (top_eight (Z l) 12500)))
  exact congrArg (Finset.univ : Finset (Fin 8)).sup (funext fun a => (h a l).1)

/-- and the sums brought together are the column's sum. -/
theorem pay3_apply (u : Fin 1) (l : Fin 128) : k0_pay3 m s (ix2 u l) = Ideal.div 1 (tot (Z l) 100000 (top (Z l) 100000)) := by
  have eight := tot_eight (Z l) (n := 12500) (by decide)
  rw [show 8 * 12500 = 100000 from rfl] at eight
  unfold k0_pay3
  refine (congrFun (shapeCast_self _ _) _).trans ?_
  show Ideal.div (Ideal.ofBits .f32 0x3F800000#32) (shapeCast S1x128 _ shapeCasts_S128_S1x128 (ix2 u l)) = _
  rw [one_eq]
  refine congrArg _ ((shapeCast_a_1a_apply _ _ u l).trans ((sum_rows _ _ _ l).trans (Eq.trans ?_ eight)))
  refine Finset.sum_congr rfl fun a _ => ?_
  show s (ix2 a l) * Ideal.exp (m (ix2 a l) - broadcastTo S8x128 (k0_pay1 m) broadcasts_S1x128_S8x128 (ix2 a l)) = _
  rw [(h a l).1, (h a l).2, show broadcastTo S8x128 (k0_pay1 m) broadcasts_S1x128_S8x128 (ix2 a l) = top (Z l) 100000 from
    (broadcastTo_1b_ab_apply _ _ a l).trans (pay1_apply Z m s h 0 l)]

end Last

section Chunks

variable (x : Vec Ideal S1 .i32) (X : Fin 50 → Vec Ideal S2000x128 .f32) (Z : Fin 128 → ℕ → ℝ)
  (hZ : ∀ (b : Fin 50) (j : ℕ), j < 5 → ∀ (p : Fin 400) (l : Fin 128),
    zC (pt b.val) x (X b) j (ix2 p l) = (Z l (2000 * b.val + 400 * j + p.val) : ℝ))

include hZ

/-- After `k` chunks the pair stands for `250 k` rows of each sublane. -/
theorem holds_chunks (k : ℕ) (hk : k ≤ 50) : Holds Z (250 * k) (Mv x X k) (Sv x X k) := by
  induction k with
  | zero =>
    refine fun a l => ⟨?_, ?_⟩
    · show Ideal.ofBits .f32 0xFF800000#32 = _
      rw [bot_eq]; rfl
    · show Ideal.ofBits .f32 0x00000000#32 = _
      rw [Ideal.ofBits_zero_f32]; rfl
  | succ k ih =>
    refine holds_blocks Z (250 * k) _ _ _ (ih (by omega)) 5 fun j hj p l => ?_
    have hb : (ck k).val = k := Nat.mod_eq_of_lt (by omega)
    have := hZ (ck k) j hj p l
    rw [hb] at this
    rw [this]
    refine congrArg (fun i => ((Z l i : ℝ) : EReal)) ?_
    ring

/-- The column's greatest, -/
theorem R0v_apply (u : Fin 1) (l : Fin 128) : R0v x X (ix2 u l) = top (Z l) 100000 :=
  (congrFun (shapeCast_self _ _) _).trans (pay1_apply Z _ _ (holds_chunks x X Z hZ 50 le_rfl) u l)

/-- and the reciprocal of its sum. -/
theorem R1v_apply (u : Fin 1) (l : Fin 128) : R1v x X (ix2 u l) = Ideal.div 1 (tot (Z l) 100000 (top (Z l) 100000)) :=
  pay3_apply Z _ _ (holds_chunks x X Z hZ 50 le_rfl) u l

end Chunks

end Cert.KernelIdeal.Hand

end
-- ==== Proof.Value.Cipher.lean ====
/-
  The random words, one at a time: `bits j` is the word drawn at counter `j` under the key `(0, 1)`, twenty rounds of
  adding, rotating and exclusive or with a key injection after every fourth.
-/
module

public import Mathlib.Init

@[expose] public section

namespace Cert.Cipher

/-- What follows a state of the generator. -/
abbrev K := BitVec 32 → BitVec 32 → BitVec 32

/-- A rotation to the left by `r`, where `s = 32 - r`. -/
abbrev rot (r s y : BitVec 32) : BitVec 32 := y <<< r ||| y >>> s

/-- One round, then `k`. -/
def rnd (r s : BitVec 32) (k : K) : K := fun x y => k (x + y) ((x + y) ^^^ rot r s y)

/-- One key injection, then `k`. -/
def inj (a b d : BitVec 32) (k : K) : K := fun x y => k (x + a) (y + b + d)

/-- The first group of rotations but its first, -/
def grpA' (k : K) : K := rnd 15#32 17#32 (rnd 26#32 6#32 (rnd 6#32 26#32 k))
/-- the first group, -/
def grpA (k : K) : K := rnd 13#32 19#32 (grpA' k)
/-- and the second. -/
def grpB (k : K) : K := rnd 17#32 15#32 (rnd 29#32 3#32 (rnd 16#32 16#32 (rnd 24#32 8#32 k)))

/-- The exclusive or of the two words. -/
def fin : K := fun x y => x ^^^ y

/-- All that follows the first round. -/
def rest : K :=
  grpA' (inj 1#32 466688987#32 1#32 (grpB (inj 466688987#32 0#32 2#32 (grpA (inj 0#32 1#32 3#32
    (grpB (inj 1#32 466688987#32 4#32 (grpA (inj 466688987#32 0#32 5#32 fin)))))))))

/-- The word at counter `j`. In the first round the first word is zero. -/
def bits (j : BitVec 32) : BitVec 32 := rest (j + 1#32) ((j + 1#32) ^^^ rot 13#32 19#32 (j + 1#32))

theorem rnd_eq (r s : BitVec 32) (k : K) (x y : BitVec 32) : rnd r s k x y = k (x + y) ((x + y) ^^^ (y <<< r ||| y >>> s)) := rfl
theorem inj_eq (a b d : BitVec 32) (k : K) (x y : BitVec 32) : inj a b d k x y = k (x + a) (y + b + d) := rfl
theorem fin_eq (x y : BitVec 32) : fin x y = x ^^^ y := rfl

end Cert.Cipher
-- ==== Proof.Value.Scaled.lean ====
/-
  The noisy scaled logits are real numbers, however the scaling is written; and the last step of the softmax is the same
  whether the exponential is divided by the sum or multiplied by its reciprocal.
-/
module

public import proofs.«01_k».proof.Proof.Value.Online
public import proofs.«01_k».proof.Proof.Value.Draw
public import proofs.«01_k».proof.Proof.Value.Cipher

@[expose] public section

noncomputable section

namespace Cert.Draw

open Idealize.ShloMosaic Cert.Online

/-- The noise of a counter. -/
abbrev noise (j : ℕ) : EReal := gum (Cipher.bits (BitVec.ofNat 32 j))

/-- The temperature as a number. -/
abbrev temp (t : BitVec 32) : EReal := ((t.toInt : ℝ) : EReal)

theorem temp_ne {t : BitVec 32} (h : t ≠ 0#32) : (t.toInt : ℝ) ≠ 0 := fun e =>
  h (BitVec.eq_of_toInt_eq (by have := Int.cast_eq_zero.mp e; simpa using this))

/-- Dividing by what is not zero is multiplying by the reciprocal. -/
theorem mul_div_one (a : EReal) {b : EReal} (h : b ≠ 0) : a * Ideal.div 1 b = Ideal.div a b := by
  rw [Ideal.div, Ideal.div, if_neg h, if_neg h, one_mul]

/-- The noisy logits over the temperature are real. -/
theorem scaled (L : Fin 128 → ℕ → EReal) (hL : ∀ l, ∀ n < 100000, ∃ r : ℝ, L l n = r) {t : BitVec 32} (ht : t ≠ 0#32) :
    ∃ Z : Fin 128 → ℕ → ℝ, ∀ l, ∀ n < 100000, Ideal.div (L l n + noise (100000 * l.val + n)) (temp t) = (Z l n : ℝ) := by
  have one : ∀ (l : Fin 128) (n : ℕ), ∃ z : ℝ, n < 100000 → Ideal.div (L l n + noise (100000 * l.val + n)) (temp t) = (z : ℝ) := fun l n => by
    by_cases hn : n < 100000
    · obtain ⟨r, hr⟩ := hL l n hn
      obtain ⟨g, hg⟩ := gum_real (Cipher.bits (BitVec.ofNat 32 (100000 * l.val + n)))
      have hz : temp t ≠ 0 := fun e => temp_ne ht (EReal.coe_eq_zero.mp e)
      refine ⟨(r + g) * ((t.toInt : ℝ))⁻¹, fun _ => ?_⟩
      rw [hr, show noise (100000 * l.val + n) = (g : EReal) from hg, Ideal.div, if_neg hz, EReal.coe_mul, EReal.coe_add, EReal.coe_inv]
    · exact ⟨0, fun h => absurd h hn⟩
  choose Z h using one
  exact ⟨Z, fun l n hn => h l n hn⟩

end Cert.Draw

end
-- ==== Proof.Value.KernelBits.lean ====
/-
  The kernel's random words: the block of 400 rows it draws holds, row by row and lane by lane, the generator's word at
  that place's counter.
-/
module

public import proofs.«01_k».proof.Proof.Value.Cipher
public import proofs.«01_k».proof.Proof.KernelIdeal.Vals

@[expose] public section

namespace Cert.KernelIdeal.Hand

open Idealize.ShloMosaic Cert.Cipher Cert.KernelIdeal.Gen

/-- The continuation `K` on blocks is `k` at every place. -/
def Pt (K : Kont) (k : Cipher.K) : Prop := ∀ x y i, K x y i = k (x i) (y i)

theorem Pt.rnd {K : Kont} {k : Cipher.K} (r s : BitVec 32) (hr : r.toNat < 32) (hs : s.toNat < 32) (h : Pt K k) :
    Pt (rndV r s K) (Cipher.rnd r s k) := fun x y i => by
  refine (h _ _ i).trans ?_
  show k (x i + y i) ((x i + y i) ^^^ ((if r.toNat < 32 then _ else _) ||| (if s.toNat < 32 then _ else _))) = _
  rw [if_pos hr, if_pos hs]; rfl

theorem Pt.inj {K : Kont} {k : Cipher.K} (a b d : BitVec 32) (h : Pt K k) : Pt (injV a b d K) (Cipher.inj a b d k) :=
  fun _ _ i => h _ _ i

theorem Pt.grpA' {K : Kont} {k : Cipher.K} (h : Pt K k) : Pt (grpA' K) (Cipher.grpA' k) :=
  .rnd _ _ (by decide) (by decide) (.rnd _ _ (by decide) (by decide) (.rnd _ _ (by decide) (by decide) h))

theorem Pt.grpA {K : Kont} {k : Cipher.K} (h : Pt K k) : Pt (grpA K) (Cipher.grpA k) :=
  .rnd _ _ (by decide) (by decide) h.grpA'

theorem Pt.grpB {K : Kont} {k : Cipher.K} (h : Pt K k) : Pt (grpB K) (Cipher.grpB k) :=
  .rnd _ _ (by decide) (by decide) (.rnd _ _ (by decide) (by decide) (.rnd _ _ (by decide) (by decide)
    (.rnd _ _ (by decide) (by decide) h)))

theorem restV_pt : Pt restV Cipher.rest :=
  .grpA' (.inj _ _ _ (.grpB (.inj _ _ _ (.grpA (.inj _ _ _ (.grpB (.inj _ _ _ (.grpA (.inj _ _ _ fun _ _ _ => rfl)))))))))

/-- The block's words are the generator's. -/
theorem bitsV_apply (j : WV) (i : S400x128.Idx) : bitsV j i = Cipher.bits (j i) := by
  refine (restV_pt _ _ i).trans ?_
  show Cipher.rest (j i + 1#32) (_ ^^^ (j i + 1#32)) = _
  unfold Cipher.bits
  rw [BitVec.xor_comm]
  rfl

end Cert.KernelIdeal.Hand
-- ==== Proof.Value.KernelRow.lean ====
/-
  The kernel's noisy scaled logits over the extended reals, entry by entry: at row `n` and lane `l` the logit plus the
  noise of the counter `100000 l + n`, times the reciprocal of the temperature.
-/
module

public import proofs.«01_k».proof.Proof.Value.Scaled
public import proofs.«01_k».proof.Proof.Value.KernelBits
public import proofs.«01_k».proof.Proof.KernelIdeal.Inv

@[expose] public section

set_option maxRecDepth 16384

noncomputable section

namespace Cert.KernelIdeal.Hand

open Idealize.ShloMosaic Idealize.ShloMosaic.ValueIdx Cert.KernelIdeal Cert.KernelIdeal.Gen Cert.Draw

theorem vC_pt : ∀ b : Fin 50, vC (grid0.coords (pt b.val)) = BitVec.ofNat 32 b.val := by decide +kernel

/-- The counters. -/
theorem idxV_apply (c o : ℕ) (p : Fin 400) (l : Fin 128) :
    idxV (BitVec.ofNat 32 c) (BitVec.ofNat 32 o) (ix2 p l) = BitVec.ofNat 32 (100000 * l.val + (2000 * c + o + p.val)) := by
  have h0 : iota .tc S400x128 32 [0] iota_S400x128_d0_w32 (ix2 p l) = BitVec.ofNat 32 p.val :=
    congrArg (BitVec.ofNat 32) (show 0 * 400 + p.val = p.val by ring)
  have h1 : iota .tc S400x128 32 [1] iota_S400x128_d1_w32 (ix2 p l) = BitVec.ofNat 32 l.val :=
    congrArg (BitVec.ofNat 32) (show 0 * 128 + l.val = l.val by ring)
  show iota .tc S400x128 32 [1] iota_S400x128_d1_w32 (ix2 p l) * BitVec.ofNat 32 100000
    + (BitVec.ofNat 32 c * BitVec.ofNat 32 2000 + BitVec.ofNat 32 o) + iota .tc S400x128 32 [0] iota_S400x128_d0_w32 (ix2 p l) = _
  rw [h0, h1, ← BitVec.ofNat_mul, ← BitVec.ofNat_mul, ← BitVec.ofNat_add, ← BitVec.ofNat_add, ← BitVec.ofNat_add]
  refine congrArg _ ?_
  ring

/-- The noisy scaled logits from the words. -/
theorem zV_apply (rt : EReal) (b : WV) (x : Vec Ideal S1x400x128 .f32) (p : Fin 400) (l : Fin 128) :
    zV (F := Ideal) rt b x (ix2 p l) = (x (ix3 0 p l) + gum (b (ix2 p l))) * rt := by
  have hx : shapeCast S400x128 x shapeCasts_S1x400x128_S400x128 (ix2 p l) = x (ix3 0 p l) := shapeCast_1ab_ab_apply _ _ _ _
  show (shapeCast S400x128 x shapeCasts_S1x400x128_S400x128 (ix2 p l)
    + (Ideal.ofBits .f32 0x00000000#32 - Ideal.log (Ideal.ofBits .f32 0x00000000#32
      - Ideal.log (draw (b (ix2 p l)) - Ideal.ofBits .f32 0x3F800000#32 + eps) + eps))) * rt = _
  rw [hx, Ideal.ofBits_zero_f32, one_eq, zero_sub, zero_sub, gum]

/-- One entry of a chunk. -/
theorem zC_apply (x : Vec Ideal S1 .i32) (X : Vec Ideal S2000x128 .f32) (b : Fin 50) (j : ℕ) (hj : j < 5) (p : Fin 400) (l : Fin 128) :
    zC (pt b.val) x X j (ix2 p l)
      = (X (ix2 ⟨400 * j + p.val, by omega⟩ l) + noise (100000 * l.val + (2000 * b.val + 400 * j + p.val))) * tempRd x := by
  unfold zC zBlk
  rw [zV_apply, bitsV_apply, vC_pt, idxV_apply]
  refine congrArg (fun y => (X y + _) * _) ?_
  exact congrArg (fun r => ix2 (n0 := 2000) (n1 := 128) r l) (Fin.ext (Nat.mod_eq_of_lt (show 400 * j + p.val < 2000 by omega)))

/-- The scale is the reciprocal of the temperature. -/
theorem tempRd_apply (x : Vec Ideal S1 .i32) : tempRd x = Ideal.div 1 (((x (ix1 0)).toInt : ℝ) : EReal) := by
  show Ideal.div (Ideal.ofBits .f32 0x3F800000#32) _ = _
  rw [one_eq]; rfl

/-- A chunk of the transposed logits. -/
theorem chXRd_apply (b : Fin 50) (v : S100000x128.Idx → EReal) (p : Fin 2000) (l : Fin 128) :
    chXRd (F := Ideal) b v (ix2 p l) = v (ix2 ⟨2000 * b.val + p.val, by omega⟩ l) := by
  refine congrArg v (funext fun a => Fin.ext ?_)
  refine (Rect.emb_apply (Rect.unit (s := S100000x128) ![2000 * b.val, 0] S2000x128.size (inb_chunk b)) (ix2 p l) a).trans ?_
  match a with
  | ⟨0, _⟩ =>
    show 2000 * b.val + 1 * p.val = _
    rw [Nat.one_mul]
  | ⟨1, _⟩ =>
    show 0 + 1 * l.val = l.val
    omega

end Cert.KernelIdeal.Hand

end
-- ==== Proof.Value.KernelVal.lean ====
/-
  The kernel's result over the extended reals, entry by entry, where the noisy scaled logits are real.
-/
module

public import proofs.«01_k».proof.Proof.Value.KernelFold
public import proofs.«01_k».proof.Proof.Value.KernelRow
public import proofs.«01_k».proof.Proof.KernelIdeal.Kit

@[expose] public section

set_option maxRecDepth 16384

noncomputable section

namespace Cert.KernelIdeal.Hand

open Idealize.ShloMosaic Idealize.ShloMosaic.ValueIdx Cert.KernelIdeal Cert.KernelIdeal.Gen Cert.Online Cert.Draw

variable (x : Vec Ideal S1 .i32) (X : Fin 50 → Vec Ideal S2000x128 .f32) (L : Fin 128 → ℕ → EReal) (Z : Fin 128 → ℕ → ℝ)
  (ht : x (ix1 0) ≠ 0#32) (hX : ∀ (b : Fin 50) (p : Fin 2000) (l : Fin 128), X b (ix2 p l) = L l (2000 * b.val + p.val))
  (hL : ∀ l, ∀ n < 100000, Ideal.div (L l n + noise (100000 * l.val + n)) (temp (x (ix1 0))) = (Z l n : ℝ))

include ht hX hL

/-- A block's entries are the noisy scaled logits. -/
theorem zC_real (b : Fin 50) (j : ℕ) (hj : j < 5) (p : Fin 400) (l : Fin 128) :
    zC (pt b.val) x (X b) j (ix2 p l) = (Z l (2000 * b.val + 400 * j + p.val) : ℝ) := by
  have hz : temp (x (ix1 0)) ≠ 0 := fun e => temp_ne ht (EReal.coe_eq_zero.mp e)
  rw [zC_apply x (X b) b j hj p l, hX, tempRd_apply, mul_div_one _ hz]
  rw [show 2000 * b.val + (400 * j + p.val) = 2000 * b.val + 400 * j + p.val by ring]
  exact hL l _ (by omega)

/-- So are a chunk's, -/
theorem Zv_real (b : Fin 50) (r : Fin 2000) (l : Fin 128) : Zv x X b (ix2 r l) = (Z l (2000 * b.val + r.val) : ℝ) := by
  have h := zC_real x X L Z ht hX hL b (r.val / 400) (by omega) ⟨r.val % 400, Nat.mod_lt _ (by decide)⟩ l
  refine Eq.trans h (congrArg (fun i => ((Z l i : ℝ) : EReal)) ?_)
  show 2000 * b.val + 400 * (r.val / 400) + r.val % 400 = 2000 * b.val + r.val
  omega

/-- and the result's chunk holds their softmax, -/
theorem Yv_real (b : Fin 50) (r : Fin 2000) (l : Fin 128) :
    Yv x X b (ix2 r l) = Ideal.div (Ideal.exp ((Z l (2000 * b.val + r.val) : ℝ) - top (Z l) 100000)) (tot (Z l) 100000 (top (Z l) 100000)) := by
  have hZ := zC_real x X L Z ht hX hL
  rw [← mul_div_one _ (tot_ne_zero (Z l) (by decide : 0 < 100000))]
  have e : shapeCast S400x128 (blkOf (Zv x X b) (r.val / 400)) shapeCasts_S1x400x128_S400x128
      (ix2 (n0 := 400) (n1 := 128) ⟨r.val % 400, Nat.mod_lt _ (by decide)⟩ l) = (Z l (2000 * b.val + r.val) : ℝ) := by
    refine (shapeCast_1ab_ab_apply _ _ _ _).trans (Eq.trans ?_ (Zv_real x X L Z ht hX hL b r l))
    refine congrArg (fun i => Zv x X b (ix2 (n0 := 2000) (n1 := 128) i l)) (Fin.ext ?_)
    show (400 * (r.val / 400) + r.val % 400) % 2000 = r.val
    omega
  show Ideal.exp (shapeCast S400x128 (blkOf (Zv x X b) (r.val / 400)) shapeCasts_S1x400x128_S400x128 (ix2 _ l)
      - broadcastTo S400x128 (R0v x X) broadcasts_S1x128_S400x128 (ix2 _ l)) * broadcastTo S400x128 (R1v x X) broadcasts_S1x128_S400x128 (ix2 _ l) = _
  rw [e, show broadcastTo S400x128 (R0v x X) broadcasts_S1x128_S400x128 (ix2 _ l) = top (Z l) 100000 from
      (broadcastTo_1b_ab_apply _ _ _ l).trans (R0v_apply x X Z hZ 0 l),
    show broadcastTo S400x128 (R1v x X) broadcasts_S1x128_S400x128 (ix2 _ l) = Ideal.div 1 (tot (Z l) 100000 (top (Z l) 100000)) from
      (broadcastTo_1b_ab_apply _ _ _ l).trans (R1v_apply x X Z hZ 0 l)]

/-- and so does the whole. -/
theorem gather_real (n : Fin 100000) (l : Fin 128) :
    gather (Yv x X) (ix2 n l) = Ideal.div (Ideal.exp ((Z l n.val : ℝ) - top (Z l) 100000)) (tot (Z l) 100000 (top (Z l) 100000)) := by
  refine (Yv_real x X L Z ht hX hL ⟨n.val / 2000, by omega⟩ ⟨n.val % 2000, Nat.mod_lt _ (by decide)⟩ l).trans ?_
  rw [show 2000 * (n.val / 2000) + n.val % 2000 = n.val by omega]

end Cert.KernelIdeal.Hand

end
-- ==== Proof.Value.KernelRead.lean ====
/-
  The kernel's result over the extended reals in terms of its arguments, entry by entry.
-/
module

public import proofs.«01_k».proof.Proof.Value.KernelVal

@[expose] public section

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Online Cert.Draw

variable (m : (ℓ : Loc nD τ sig) → Buf (Elt Ideal) ℓ) (c : Dev nD)

/-- The logits and the temperature as launched. -/
def arg0 : FVec Ideal S128x100000 .f32 := m ((c.tc : Thread nD τ).loc main_arg0)
def arg1 : IVec S_ 32 := m ((c.tc : Thread nD τ).loc main_arg1)

/-- The region finds the logits transposed, -/
theorem V_v0 : V m c main_v0 = (transpose S100000x128 [1, 0] (arg0 m c) transposes_S128x100000_S100000x128_1_0 : FVec Ideal S100000x128 .f32) := rfl
/-- and the temperature in an array of one. -/
theorem V_v1 : V m c main_v1 = (shapeCast S1 (arg1 m c) shapeCasts_S_S1 : IVec S1 32) := rfl

theorem xch_apply (b : Fin 50) (p : Fin 2000) (l : Fin 128) :
    xch m c b (ix2 p l) = arg0 m c (ix2 l ⟨2000 * b.val + p.val, by omega⟩) := by
  refine (chXRd_apply b (V m c main_v0) p l).trans ?_
  rw [V_v0]
  exact transpose_ix2_apply _ _ _ _

theorem tmp_apply (i : S_.Idx) : tmp m c (ix1 0) = arg1 m c i := by
  show V m c main_v1 (ix1 (n := 1) 0) = _
  rw [V_v1]
  exact congrArg (arg1 m c) (funext fun a => a.elim0)

/-- The column of a row of logits, as a function of the number. -/
def col (l : Fin 128) (n : ℕ) : EReal := if h : n < 100000 then arg0 m c (ix2 l ⟨n, h⟩) else 0

/-- Each entry of the kernel's result. -/
theorem result (i₀ : S_.Idx) (ht : arg1 m c i₀ ≠ 0#32) (Z : Fin 128 → ℕ → ℝ)
    (hL : ∀ l, ∀ n < 100000, Ideal.div (col m c l n + noise (100000 * l.val + n)) (temp (arg1 m c i₀)) = (Z l n : ℝ))
    (r : Fin 128) (n : Fin 100000) :
    (transpose S128x100000 [1, 0] (Gv m c) transposes_S100000x128_S128x100000_1_0 : FVec Ideal S128x100000 .f32) (ix2 r n)
      = Ideal.div (Ideal.exp ((Z r n.val : ℝ) - top (Z r) 100000)) (tot (Z r) 100000 (top (Z r) 100000)) := by
  refine (transpose_ix2_apply _ _ _ _).trans ?_
  rw [← tmp_apply m c i₀] at ht hL
  refine gather_real (tmp m c) (xch m c) (col m c) Z ht (fun b p l => ?_) hL n r
  rw [xch_apply, col, dif_pos]

end Cert.KernelIdeal.Hand

end
-- ==== Proof.Value.Given.lean ====
/-
  What the precondition says: the temperature is not zero and every logit is a real number.
-/
module

public import proofs.«01_k».proof.Proof.Gen.Pre_logits_finite
public import proofs.«01_k».proof.Proof.Value.Draw
public import Idealize.ShloMosaic.Lib.ReduceAll
public import Idealize.ShloMosaic.Lib.Affine
public import Idealize.ShloMosaic.Lib.ValueLayout

@[expose] public section

noncomputable section

namespace Cert.Given

open Idealize.ShloMosaic Idealize.ShloMosaic.ValueIdx Cert.Pre_logits_finite

instance : Subsingleton S_.Idx := ⟨fun _ _ => funext fun a => a.elim0⟩

/-- A number whose absolute value is below infinity is real. -/
theorem real_of_abs {x : EReal} (h : Ideal.cmp .olt (max x (-x)) ⊤ = 1#1) : ∃ r : ℝ, x = r := by
  have h : max x (-x) < ⊤ := by
    by_contra hn
    have : Ideal.cmp .olt (max x (-x)) ⊤ = 0#1 := by simp only [Ideal.cmp, decide_eq_false hn]; rfl
    rw [this] at h; exact absurd h (by decide)
  induction x using EReal.rec with
  | bot => exact absurd h (by simp)
  | top => exact absurd h (by simp)
  | coe r => exact ⟨r, rfl⟩

theorem given [Facts] (x : FVec Ideal S128x100000 .f32) (t u : IVec S_ 32) (h : fn (F := Ideal) x t u = fun _ => 1#1) :
    (∀ i, ∃ r : ℝ, x i = r) ∧ t ix0 ≠ 0#32 := by
  obtain ⟨h1, h2⟩ := IntOp.andi_eq_one.mp (congrFun h ix0)
  refine ⟨fun i => ?_, fun e => ?_⟩
  · have hi := Host.reduce_andi_all _ _ _ _ _ h1 i
    refine real_of_abs ?_
    rw [← Cert.Draw.top_eq]
    exact hi
  · have h2 : IntOp.cmpi .ne (t ix0) 0#32 = 1#1 := h2
    rw [e] at h2
    exact absurd h2 (by decide)

end Cert.Given

end
-- ==== Proof.Ref.Bits.lean ====
/-
  The reference's random words: under the key `(0, 1)` and with the counter's high word zero, the exclusive or of the
  cipher's two results is the generator's word at the counter's low word.
-/
module

public import proofs.«01_k».proof.Proof.Value.Cipher
public import proofs.«01_k».proof.Proof.Ref.Ops

@[expose] public section

set_option maxRecDepth 16384
set_option maxHeartbeats 4000000

noncomputable section

namespace Cert.Ref

open Idealize.ShloMosaic Idealize.ShloMosaic.StableHlo Idealize.SL.Sem Cert.ReferenceIdeal Cert.Line Cert.Cipher

variable {F : FTy → Type} [FloatOps F]

/-- One round, off its operations: `x'` the sum, `l` and `q` the two shifts, `o` the rotation and `y'` the new word. -/
theorem rnd_step {r s : BitVec 32} {k : Cipher.K} {x y x' l q o y' b b' : BitVec 32} (hx : x + y = x')
    (hl : ∀ r, b = r → r.toNat < 32 → y <<< r = l) (hb : b = r) (hq : ∀ r, b' = r → r.toNat < 32 → y >>> r = q) (hb' : b' = s)
    (ho : l ||| q = o) (hy : x' ^^^ o = y') (hr : r.toNat < 32) (hs : s.toNat < 32) : rnd r s k x y = k x' y' := by
  rw [rnd_eq, hx, hl r hb hr, hq s hb' hs, ho, hy]

/-- One key injection, off its operations. -/
theorem inj_step {a b d : BitVec 32} {k : Cipher.K} {x y x' y₁ y' ba bb bd : BitVec 32} (hx : ∀ r, ba = r → x + r = x') (ha : ba = a)
    (hy₁ : ∀ r, bb = r → y + r = y₁) (hb : bb = b) (hy : ∀ r, bd = r → y₁ + r = y') (hd : bd = d) : inj a b d k x y = k x' y' := by
  rw [inj_eq, hx a ha, hy₁ b hb, hy d hd]

/-- The exclusive or of the cipher's two results. -/
theorem tf_bits (V : Valuation τ sig (Elt F)) (a0 a1 : TRef sig ⟨S_, .i32⟩) (a2 a3 : TRef sig ⟨S128x100000, .i32⟩)
    (φ : fn_threefry2x32.Bufs) (h : (tfLine (F := F) a0 a1 a2 a3 φ).eqs V) (g0 : ∀ j, wd V a0 j = 0#32) (g1 : ∀ j, wd V a1 j = 1#32)
    (i : S128x100000.Idx) (gi : wd V a2 i = 0#32) :
    wd V φ.v171 i ^^^ wd V φ.v175 i = bits (wd V a3 i) := by
  obtain ⟨p0, p1, p2, p3⟩ := h
  obtain ⟨hx0, hc, hx1, h2, h3, h4, h5, h6, hc0, h7, h8, hc1, h9, h10, h11, h12, h13, hc2, h14, h15, hc3, h16, h17, h18, h19, h20, hc4, h21,
      h22, hc5, h23, h24, h25, h26, h27, hc6, h28, h29, hc7, h30, h31, h32, h33, h34, h35, h36, h37, hc8, h38, h39, h40, hc9, h41, h42,
      hc10, h43, h44, h45, h46, h47⟩ := p0
  obtain ⟨hc11, h48, h49, hc12, h50, h51, h52, h53, h54, hc13, h55, h56, hc14, h57, h58, h59, h60, h61, hc15, h62, h63, hc16, h64, h65, h66,
      h67, h68, h69, h70, h71, hc17, h72, h73, h74, hc18, h75, h76, hc19, h77, h78, h79, h80, h81, hc20, h82, h83, hc21, h84, h85, h86, h87,
      h88, hc22, h89, h90, hc23, h91, h92, h93, h94⟩ := p1
  obtain ⟨h95, hc24, h96, h97, hc25, h98, h99, h100, h101, h102, h103, h104, h105, hc26, h106, h107, h108, hc27, h109, h110, hc28, h111,
      h112, h113, h114, h115, hc29, h116, h117, hc30, h118, h119, h120, h121, h122, hc31, h123, h124, hc32, h125, h126, h127, h128, h129,
      hc33, h130, h131, hc34, h132, h133, h134, h135, h136, h137, h138, h139, hc35, h140, h141, h142⟩ := p2
  obtain ⟨hc36, h143, h144, hc37, h145, h146, h147, h148, h149, hc38, h150, h151, hc39, h152, h153, h154, h155, h156, hc40, h157, h158,
      hc41, h159, h160, h161, h162, h163, hc42, h164, h165, hc43, h166, h167, h168, h169, h170, h171, h172, h173, hc44, h174, h175, -⟩ := p3
  have k0 : ∀ j, wd V φ.v0 j = 1#32 := fun j => by rw [← hx0 j _ (g1 j), g0 j]; rfl
  have g2 : ∀ j, wd V φ.v1 j = 466688987#32 := fun j => by rw [← hx1 j _ (hc j), k0 j]; rfl
  have e3 : wd V φ.v3 i = 0#32 := by rw [← h3 i _ (h2 i _ g0), gi]; rfl
  have e5 : wd V a3 i + 1#32 = wd V φ.v5 i := h5 i _ (h4 i _ g1)
  have e6 : wd V φ.v5 i = wd V φ.v6 i := by rw [← h6 i _ rfl, e3]; simp
  have e12 : wd V φ.v6 i ^^^ rot 13#32 19#32 (wd V φ.v5 i) = wd V φ.v12 i := by
    unfold rot
    rw [h8 i _ (h7 i _ hc0) (by decide), h10 i _ (h9 i _ hc1) (by decide), h11 i _ rfl, h12 i _ rfl]
  refine Eq.symm ?_
  unfold bits
  rw [e5]
  refine (congrArg (fun w => rest w (w ^^^ rot 13#32 19#32 (wd V φ.v5 i))) e6).trans ?_
  beta_reduce
  rw [e12]
  unfold rest grpA grpA' grpB
  refine (rnd_step (h13 i _ rfl) (h15 i) (h14 i _ hc2) (h17 i) (h16 i _ hc3) (h18 i _ rfl) (h19 i _ rfl) (by decide) (by decide)).trans ?_
  refine (rnd_step (h20 i _ rfl) (h22 i) (h21 i _ hc4) (h24 i) (h23 i _ hc5) (h25 i _ rfl) (h26 i _ rfl) (by decide) (by decide)).trans ?_
  refine (rnd_step (h27 i _ rfl) (h29 i) (h28 i _ hc6) (h31 i) (h30 i _ hc7) (h32 i _ rfl) (h33 i _ rfl) (by decide) (by decide)).trans ?_
  refine (inj_step (h35 i) (h34 i _ g1) (h37 i) (h36 i _ g2) (h39 i) (h38 i _ hc8)).trans ?_
  refine (rnd_step (h40 i _ rfl) (h42 i) (h41 i _ hc9) (h44 i) (h43 i _ hc10) (h45 i _ rfl) (h46 i _ rfl) (by decide) (by decide)).trans ?_
  refine (rnd_step (h47 i _ rfl) (h49 i) (h48 i _ hc11) (h51 i) (h50 i _ hc12) (h52 i _ rfl) (h53 i _ rfl) (by decide) (by decide)).trans ?_
  refine (rnd_step (h54 i _ rfl) (h56 i) (h55 i _ hc13) (h58 i) (h57 i _ hc14) (h59 i _ rfl) (h60 i _ rfl) (by decide) (by decide)).trans ?_
  refine (rnd_step (h61 i _ rfl) (h63 i) (h62 i _ hc15) (h65 i) (h64 i _ hc16) (h66 i _ rfl) (h67 i _ rfl) (by decide) (by decide)).trans ?_
  refine (inj_step (h69 i) (h68 i _ g2) (h71 i) (h70 i _ g0) (h73 i) (h72 i _ hc17)).trans ?_
  refine (rnd_step (h74 i _ rfl) (h76 i) (h75 i _ hc18) (h78 i) (h77 i _ hc19) (h79 i _ rfl) (h80 i _ rfl) (by decide) (by decide)).trans ?_
  refine (rnd_step (h81 i _ rfl) (h83 i) (h82 i _ hc20) (h85 i) (h84 i _ hc21) (h86 i _ rfl) (h87 i _ rfl) (by decide) (by decide)).trans ?_
  refine (rnd_step (h88 i _ rfl) (h90 i) (h89 i _ hc22) (h92 i) (h91 i _ hc23) (h93 i _ rfl) (h94 i _ rfl) (by decide) (by decide)).trans ?_
  refine (rnd_step (h95 i _ rfl) (h97 i) (h96 i _ hc24) (h99 i) (h98 i _ hc25) (h100 i _ rfl) (h101 i _ rfl) (by decide) (by decide)).trans ?_
  refine (inj_step (h103 i) (h102 i _ g0) (h105 i) (h104 i _ g1) (h107 i) (h106 i _ hc26)).trans ?_
  refine (rnd_step (h108 i _ rfl) (h110 i) (h109 i _ hc27) (h112 i) (h111 i _ hc28) (h113 i _ rfl) (h114 i _ rfl) (by decide) (by decide)).trans ?_
  refine (rnd_step (h115 i _ rfl) (h117 i) (h116 i _ hc29) (h119 i) (h118 i _ hc30) (h120 i _ rfl) (h121 i _ rfl) (by decide) (by decide)).trans ?_
  refine (rnd_step (h122 i _ rfl) (h124 i) (h123 i _ hc31) (h126 i) (h125 i _ hc32) (h127 i _ rfl) (h128 i _ rfl) (by decide) (by decide)).trans ?_
  refine (rnd_step (h129 i _ rfl) (h131 i) (h130 i _ hc33) (h133 i) (h132 i _ hc34) (h134 i _ rfl) (h135 i _ rfl) (by decide) (by decide)).trans ?_
  refine (inj_step (h137 i) (h136 i _ g1) (h139 i) (h138 i _ g2) (h141 i) (h140 i _ hc35)).trans ?_
  refine (rnd_step (h142 i _ rfl) (h144 i) (h143 i _ hc36) (h146 i) (h145 i _ hc37) (h147 i _ rfl) (h148 i _ rfl) (by decide) (by decide)).trans ?_
  refine (rnd_step (h149 i _ rfl) (h151 i) (h150 i _ hc38) (h153 i) (h152 i _ hc39) (h154 i _ rfl) (h155 i _ rfl) (by decide) (by decide)).trans ?_
  refine (rnd_step (h156 i _ rfl) (h158 i) (h157 i _ hc40) (h160 i) (h159 i _ hc41) (h161 i _ rfl) (h162 i _ rfl) (by decide) (by decide)).trans ?_
  refine (rnd_step (h163 i _ rfl) (h165 i) (h164 i _ hc42) (h167 i) (h166 i _ hc43) (h168 i _ rfl) (h169 i _ rfl) (by decide) (by decide)).trans ?_
  refine (inj_step (h171 i) (h170 i _ g2) (h173 i) (h172 i _ g0) (h175 i) (h174 i _ hc44)).trans ?_
  rfl

end Cert.Ref

end
-- ==== Proof.Ref.Uniform.lean ====
/-
  The reference's uniform draw over the extended reals: the entry at row `r` and column `n` is the number drawn by the
  counter `100000 r + n`, less one.
-/
module

public import proofs.«01_k».proof.Proof.Ref.Bits
public import proofs.«01_k».proof.Proof.Value.Draw
public import Idealize.ShloMosaic.Lib.ValueLayout

@[expose] public section

set_option maxRecDepth 16384

noncomputable section

namespace Cert.Ref

open Idealize.ShloMosaic Idealize.ShloMosaic.ValueIdx Idealize.ShloMosaic.StableHlo Idealize.SL.Sem Cert.ReferenceIdeal Cert.Line Cert.Draw

/-- The number at an index of a buffer of numbers. -/
def fl {S : Shape} (V : Valuation τ sig (Elt Ideal)) (x : TRef sig ⟨S, .f32⟩) (i : S.Idx) : EReal := (rd V x : FVec Ideal S .f32) i

/-- The counter of an entry. -/
abbrev ctr (i : S128x100000.Idx) : ℕ := 100000 * (i 0).val + (i 1).val

theorem ctr_lt (i : S128x100000.Idx) : ctr i < 12800000 := by
  have h0 : (i 0).val < 128 := (i 0).isLt
  have h1 : (i 1).val < 100000 := (i 1).isLt
  show 100000 * (i 0).val + (i 1).val < _
  omega

/-- The high half of a counter is zero and the low half the counter. -/
theorem high (n : ℕ) (h : n < 12800000) : BitVec.setWidth 32 (BitVec.ofNat 64 n >>> 32) = 0#32 := by
  apply BitVec.eq_of_toNat_eq
  simp only [BitVec.toNat_setWidth, BitVec.toNat_ushiftRight, BitVec.toNat_ofNat, Nat.shiftRight_eq_div_pow]
  omega

theorem low (n : ℕ) : BitVec.setWidth 32 (BitVec.ofNat 64 n) = BitVec.ofNat 32 n := by
  apply BitVec.eq_of_toNat_eq
  simp only [BitVec.toNat_setWidth, BitVec.toNat_ofNat]
  omega

theorem unit_val (k : Fin 1) : k.val = 0 := by omega

/-- Each entry of the draw. -/
theorem uniform (V : Valuation τ sig (Elt Ideal)) (a0 : TRef sig ⟨S2, .i32⟩) (a1 a2 : TRef sig ⟨S_, .f32⟩) (φ : fn_uniform.Bufs)
    (h : (uniLine a0 a1 a2 φ).eqs V) (k0 : wd V a0 (ix1 (n := 2) 0) = 0#32) (k1 : wd V a0 (ix1 (n := 2) 1) = 1#32)
    (l0 : ∀ i, fl V a1 i = 0) (l1 : ∀ i, fl V a2 i = 1) (i : S128x100000.Idx) :
    fl V φ.v34 i = draw (Cipher.bits (BitVec.ofNat 32 (ctr i))) - 1 := by
  obtain ⟨e0, e1, e2, e3, e4, e5, e6, e7, e8, e9, ec, e10, e11, ec0, e12, e13, e14, ec1, e15, e16, e17, e18, tf,
    e20, ec2, e21, e22, ec3, e23, e24, e25, ecst, e26, e27, e28, e29, e30, e31, e32, e33, e34, -⟩ := h
  have q14 : ∀ i, (rd V φ.v14 : IVec S128x100000 64) i = BitVec.ofNat 64 (ctr i) := fun i => by
    rw [e14, e11, e13, e10, e12, e8, e9, ec, ec0]
    show BitVec.ofNat 64 100000 * BitVec.ofNat 64 (i 0).val + BitVec.ofNat 64 1 * BitVec.ofNat 64 (i 1).val = _
    rw [← BitVec.ofNat_mul, ← BitVec.ofNat_mul, ← BitVec.ofNat_add, Nat.one_mul]
  have q18 : ∀ i, wd V φ.v18 i = 0#32 := fun i => by
    unfold wd; rw [e18, e16, e15, ec1]
    show BitVec.setWidth 32 ((rd V φ.v14 : IVec S128x100000 64) i >>> 32) = _
    rw [q14, high _ (ctr_lt i)]
  have q17 : ∀ i, wd V φ.v17 i = BitVec.ofNat 32 (ctr i) := fun i => by
    unfold wd; rw [e17]
    show BitVec.setWidth 32 ((rd V φ.v14 : IVec S128x100000 64) i) = _
    rw [q14, low]
  have q5 : ∀ j, wd V φ.v5 j = 0#32 := fun j => by
    unfold wd; rw [e5, e4]
    exact (congrArg (wd V a0) (funext fun a => Fin.ext (by
      match a with | ⟨0, _⟩ => exact congrArg (0 + ·) (unit_val _)))).trans k0
  have q7 : ∀ j, wd V φ.v7 j = 1#32 := fun j => by
    unfold wd; rw [e7, e6]
    exact (congrArg (wd V a0) (funext fun a => Fin.ext (by
      match a with | ⟨0, _⟩ => exact congrArg (1 + ·) (unit_val _)))).trans k1
  have q20 : wd V φ.v20 i = Cipher.bits (BitVec.ofNat 32 (ctr i)) := by
    unfold wd; rw [e20, ← q17 i]
    exact tf_bits V _ _ _ _ _ tf q5 q7 i (q18 i)
  have q2 : ∀ i, fl V φ.v2 i = 0 := fun i => by
    unfold fl; rw [e2, e0]; exact l0 _
  have q3 : ∀ i, fl V φ.v3 i = 1 := fun i => by
    unfold fl; rw [e3, e1]; exact l1 _
  have q29 : ∀ i, fl V φ.v29 i = 1 := fun i => by
    unfold fl; rw [e29, e28]
    show fl V φ.v3 _ - fl V φ.v2 _ = 1
    rw [q3, q2, sub_zero]
  have q31 : ∀ i, fl V φ.v31 i = 0 := fun i => by
    unfold fl; rw [e31]; exact q2 _
  have q33 : ∀ i, fl V φ.v33 i = 0 := fun i => by
    unfold fl; rw [e33]; exact q2 _
  have q27 : fl V φ.v27 i = draw (Cipher.bits (BitVec.ofNat 32 (ctr i))) - 1 := by
    unfold fl; rw [e27, e25, e24, e26, ecst, e23, ec3, e22, e21, ec2, ← q20]
    show draw (wd V φ.v20 i) - Ideal.ofBits .f32 0x3F800000#32 = _
    rw [one_eq]
  have q32 : fl V φ.v32 i = draw (Cipher.bits (BitVec.ofNat 32 (ctr i))) - 1 := by
    unfold fl; rw [e32, e30]
    show fl V φ.v27 i * fl V φ.v29 i + fl V φ.v31 i = _
    rw [q27, q29, q31, mul_one, add_zero]
  unfold fl; rw [e34]
  show max (fl V φ.v33 i) (fl V φ.v32 i) = _
  rw [q33, q32]
  obtain ⟨r, hr, h1, -⟩ := draw_real (Cipher.bits (BitVec.ofNat 32 (ctr i)))
  rw [hr]
  refine max_eq_right ?_
  rw [← EReal.coe_one, ← EReal.coe_sub]
  exact EReal.coe_nonneg.mpr (sub_nonneg.mpr h1)

end Cert.Ref

end
-- ==== Proof.Ref.Softmax.lean ====
/-
  The reference's softmax over the extended reals, step by step over the arrays alone: from a draw and the arrays each
  operation makes of it to each entry of the result.
-/
module

public import proofs.«01_k».proof.Proof.Ref.Uniform
public import proofs.«01_k».proof.Proof.Value.Scaled
public import Idealize.ShloMosaic.Lib.IdealHost
public import Idealize.ShloMosaic.Lib.Pipeline.Value

@[expose] public section

set_option maxRecDepth 16384

noncomputable section

namespace Cert.Ref

open Idealize.ShloMosaic Idealize.ShloMosaic.ValueIdx Idealize.ShloMosaic.StableHlo Idealize.SL.Sem Cert.ReferenceIdeal Cert.Line
open Cert.Draw Cert.Online

theorem reduces_S128x100000_S128 : S128x100000.Reduces [1] S128 := by decide

theorem lift_cols (r : Fin 128) (n : Fin 100000) :
    (reduces_S128x100000_S128).lift (ix1 (n := 128) r) n = ix2 (n0 := 128) (n1 := 100000) r n := by
  funext c; match c with | ⟨0, _⟩ => rfl | ⟨1, _⟩ => rfl

/-- The greatest along a row, -/
theorem max_cols (x : FVec Ideal S128x100000 .f32) (h : S128x100000.ReducesTo [1] S128) (hu : 0 < S_.numel) (z : ℕ → ℝ) (r : Fin 128)
    (hz : ∀ n : Fin 100000, x (ix2 r n) = (z n.val : ℝ)) :
    Host.reduce (FloatOps.maximumf (F := Ideal) (φ := .f32)) x (constant S_ .f32 0xFF800000#32) h hu (ix1 r) = top z 100000 := by
  refine (Host.reduce_eq_fold_single (max : EReal → EReal → EReal) x _ h reduces_S128x100000_S128 hu (ix1 r)).trans ?_
  show Finset.fold max (Ideal.ofBits .f32 0xFF800000#32) _ _ = _
  rw [bot_eq]
  refine Eq.trans ?_ (sup_fin 100000 fun n => (z n : EReal))
  exact congrArg (fun f => Finset.fold max ⊥ f (Finset.univ : Finset (Fin 100000)))
    (funext fun n => (congrArg x (lift_cols r n)).trans (hz n))

/-- and the sum along it. -/
theorem sum_cols (x : FVec Ideal S128x100000 .f32) (h : S128x100000.ReducesTo [1] S128) (hu : 0 < S_.numel) (z : ℕ → ℝ) (r : Fin 128)
    (m : EReal) (hz : ∀ n : Fin 100000, x (ix2 r n) = Ideal.exp ((z n.val : ℝ) - m)) :
    Host.reduceAdd x (constant S_ .f32 0x00000000#32) h hu (ix1 r) = tot z 100000 m := by
  refine (hostReduceAdd_apply x _ h hu (ix1 r)).trans ((Ideal.hostReduceAdd_single h reduces_S128x100000_S128 x _ (ix1 r)).trans ?_)
  show Ideal.ofBits .f32 0x00000000#32 + _ = _
  rw [Ideal.ofBits_zero_f32, zero_add]
  refine Eq.trans ?_ (Fin.sum_univ_eq_sum_range (fun n => Ideal.exp ((z n : EReal) - m)) 100000)
  exact Finset.sum_congr rfl fun n _ => (congrArg x (lift_cols r n)).trans (hz n)

/-- A row's number spread over the row. -/
theorem spread_apply (x : FVec Ideal S128 .f32) (h : S128.BroadcastsInDim S128x1 ![0]) (h' : S128x1.BroadcastsInDim S128x100000 ![0, 1])
    (r : Fin 128) (n : Fin 100000) : broadcastInDim S128x100000 ![0, 1] h' (broadcastInDim S128x1 ![0] h x) (ix2 r n) = x (ix1 r) :=
  congrArg x (funext fun a => Fin.ext (by match a with | ⟨0, _⟩ => rfl))

/-- The greater of nothing and a number is the number. -/
theorem max_bot_apply (a b : FVec Ideal S128 .f32) (i : S128.Idx) (h : a i = ⊥) : maximumf a b i = b i := by
  show max (a i) (b i) = b i
  rw [h]
  exact max_eq_right bot_le

section Steps

variable {v7 v8 v9 v10 v11 v12 v13 v14 v15 v16 v18 v19 v24 v25 v26 v29 v30 x : FVec Ideal S128x100000 .f32} {e e' v17 b5 b6 b7 : FVec Ideal S_ .f32}
  {t : IVec S_ 32} {v20 v21 v22 v27 : FVec Ideal S128 .f32} {v23 v28 : FVec Ideal S128x1 .f32}
  {h : S_.BroadcastsInDim S128x100000 ![]} {hr : S128x100000.ReducesTo [1] S128} {hu : 0 < S_.numel} {h1 : S_.BroadcastsInDim S128 ![]}
  {h2 : S128.BroadcastsInDim S128x1 ![0]} {h3 : S128x1.BroadcastsInDim S128x100000 ![0, 1]}

/-- The noise. -/
theorem noise_step (e3 : e = constant S_ .f32 0x1E3CE508#32) (e8 : v8 = broadcastInDim S128x100000 ![] h e) (e9 : v9 = addf v7 v8)
    (e10 : v10 = Host.log v9) (e11 : v11 = Host.negf v10) (e4 : e' = constant S_ .f32 0x1E3CE508#32)
    (e12 : v12 = broadcastInDim S128x100000 ![] h e') (e13 : v13 = addf v11 v12) (e14 : v14 = Host.log v13) (e15 : v15 = Host.negf v14)
    (q7 : ∀ i, v7 i = draw (Cipher.bits (BitVec.ofNat 32 (ctr i))) - 1) (i : S128x100000.Idx) : v15 i = noise (ctr i) := by
  subst e3 e8 e9 e10 e11 e4 e12 e13 e14 e15
  show -Ideal.log (-Ideal.log (v7 i + eps) + eps) = _
  rw [q7]; rfl

/-- The noisy scaled logits. -/
theorem scaled_step (e16 : v16 = addf x v15) (e17 : v17 = sitofp .f32 t) (e18 : v18 = broadcastInDim S128x100000 ![] h v17)
    (e19 : v19 = Host.divf v16 v18) (i : S128x100000.Idx) (w : BitVec 32) (ht : ∀ i, t i = w) :
    v19 i = Ideal.div (x i + v15 i) (temp w) := by
  subst e16 e17 e18 e19
  show Ideal.div (x i + v15 i) (temp (t _)) = _
  rw [ht]

/-- The greatest of each row. -/
theorem top_step (e5 : b5 = constant S_ .f32 0xFF800000#32) (e20 : v20 = Host.reduce FloatOps.maximumf v19 b5 hr hu)
    (e6 : b6 = constant S_ .f32 0xFF800000#32) (e21 : v21 = broadcastInDim S128 ![] h1 b6) (e22 : v22 = maximumf v21 v20)
    (z : ℕ → ℝ) (r : Fin 128) (hz : ∀ n : Fin 100000, v19 (ix2 r n) = (z n.val : ℝ)) : v22 (ix1 r) = top z 100000 := by
  have hb : v21 (ix1 r) = ⊥ := by rw [e21, e6]; exact bot_eq
  rw [e22, max_bot_apply v21 v20 _ hb, e20, e5]
  exact max_cols v19 hr hu z r hz

/-- The exponentials. -/
theorem exp_step (e23 : v23 = broadcastInDim S128x1 ![0] h2 v22) (e24 : v24 = broadcastInDim S128x100000 ![0, 1] h3 v23)
    (e25 : v25 = subf v19 v24) (e26 : v26 = Host.exp v25) (r : Fin 128) (n : Fin 100000) :
    v26 (ix2 r n) = Ideal.exp (v19 (ix2 r n) - v22 (ix1 r)) := by
  rw [← spread_apply v22 h2 h3 r n]
  subst e23 e24 e25 e26
  rfl

/-- The result. -/
theorem div_step (e28 : v28 = broadcastInDim S128x1 ![0] h2 v27) (e29 : v29 = broadcastInDim S128x100000 ![0, 1] h3 v28)
    (e30 : v30 = Host.divf v26 v29) (r : Fin 128) (n : Fin 100000) : v30 (ix2 r n) = Ideal.div (v26 (ix2 r n)) (v27 (ix1 r)) := by
  rw [← spread_apply v27 h2 h3 r n]
  subst e28 e29 e30
  rfl

/-- All but the draw: each entry of the result from the draw. -/
theorem softmax_step (e3 : e = constant S_ .f32 0x1E3CE508#32) (e8 : v8 = broadcastInDim S128x100000 ![] h e) (e9 : v9 = addf v7 v8)
    (e10 : v10 = Host.log v9) (e11 : v11 = Host.negf v10) (e4 : e' = constant S_ .f32 0x1E3CE508#32)
    (e12 : v12 = broadcastInDim S128x100000 ![] h e') (e13 : v13 = addf v11 v12) (e14 : v14 = Host.log v13) (e15 : v15 = Host.negf v14)
    (e16 : v16 = addf x v15) (e17 : v17 = sitofp .f32 t) (e18 : v18 = broadcastInDim S128x100000 ![] h v17)
    (e19 : v19 = Host.divf v16 v18)
    (e5 : b5 = constant S_ .f32 0xFF800000#32) (e20 : v20 = Host.reduce FloatOps.maximumf v19 b5 hr hu)
    (e6 : b6 = constant S_ .f32 0xFF800000#32) (e21 : v21 = broadcastInDim S128 ![] h1 b6) (e22 : v22 = maximumf v21 v20)
    (e23 : v23 = broadcastInDim S128x1 ![0] h2 v22) (e24 : v24 = broadcastInDim S128x100000 ![0, 1] h3 v23)
    (e25 : v25 = subf v19 v24) (e26 : v26 = Host.exp v25)
    (e7 : b7 = constant S_ .f32 0x00000000#32) (e27 : v27 = Host.reduceAdd v26 b7 hr hu)
    (e28 : v28 = broadcastInDim S128x1 ![0] h2 v27) (e29 : v29 = broadcastInDim S128x100000 ![0, 1] h3 v28) (e30 : v30 = Host.divf v26 v29)
    (q7 : ∀ i, v7 i = draw (Cipher.bits (BitVec.ofNat 32 (ctr i))) - 1) (w : BitVec 32) (ht : ∀ i, t i = w) (L : Fin 128 → ℕ → EReal)
    (Z : Fin 128 → ℕ → ℝ) (hx : ∀ (r : Fin 128) (n : Fin 100000), x (ix2 r n) = L r n.val)
    (hL : ∀ l, ∀ n < 100000, Ideal.div (L l n + noise (100000 * l.val + n)) (temp w) = (Z l n : ℝ)) (r : Fin 128) (n : Fin 100000) :
    v30 (ix2 r n) = Ideal.div (Ideal.exp ((Z r n.val : ℝ) - top (Z r) 100000)) (tot (Z r) 100000 (top (Z r) 100000)) := by
  have q19 : ∀ (r : Fin 128) (n : Fin 100000), v19 (ix2 r n) = (Z r n.val : ℝ) := fun r n => by
    rw [scaled_step e16 e17 e18 e19 _ w ht, noise_step e3 e8 e9 e10 e11 e4 e12 e13 e14 e15 q7, hx]
    exact hL r n.val n.isLt
  have q26 : ∀ (r : Fin 128) (n : Fin 100000), v26 (ix2 r n) = Ideal.exp ((Z r n.val : ℝ) - top (Z r) 100000) := fun r n => by
    rw [exp_step e23 e24 e25 e26, q19, top_step e5 e20 e6 e21 e22 (Z r) r (q19 r)]
  rw [div_step e28 e29 e30, q26, e27, e7, sum_cols v26 hr hu (Z r) r _ (q26 r)]

end Steps

end Cert.Ref

end
-- ==== Proof.Ref.Val.lean ====
/-
  The reference's result over the extended reals, entry by entry: the softmax along each row of the noisy logits over
  the temperature, where those are real.
-/
module

public import proofs.«01_k».proof.Proof.Ref.Softmax
public import Idealize.ShloMosaic.Lib.IdealHost
public import Idealize.ShloMosaic.Lib.Pipeline.Value

@[expose] public section

set_option maxRecDepth 16384

noncomputable section

namespace Cert.Ref

open Idealize.ShloMosaic Idealize.ShloMosaic.ValueIdx Idealize.ShloMosaic.StableHlo Idealize.SL.Sem Cert.ReferenceIdeal Cert.Line
open Cert.Draw Cert.Online

/-- The key's two words. -/
theorem key_apply (a b : IVec S1 32) (h : Shape.Concatenates [S1, S1] S2 0) :
    concatenate S2 0 [⟨S1, a⟩, ⟨S1, b⟩] h (ix1 (n := 2) 0) = a (ix1 (n := 1) 0)
      ∧ concatenate S2 0 [⟨S1, a⟩, ⟨S1, b⟩] h (ix1 (n := 2) 1) = b (ix1 (n := 1) 0) :=
  ⟨concatenate_pair_apply_left (t := S2) (s₁ := S1) (s₂ := S1) 0 a b h (ix1 (n := 2) 0) rfl (ix1 (n := 1) 0)
      fun b => by match b with | ⟨0, _⟩ => rfl,
    concatenate_pair_apply_right (t := S2) (s₁ := S1) (s₂ := S1) 0 a b h (ix1 (n := 2) 1) rfl rfl (ix1 (n := 1) 0)
      (fun b hb => by match b with | ⟨0, _⟩ => exact absurd rfl hb) rfl⟩

/-- The draw within the whole. -/
theorem draw_main (c : Dev nD) (V : Valuation τ sig (Elt Ideal)) (h : (mainLine (F := Ideal) c).eqs V) (i : S128x100000.Idx) :
    fl V main_call0.v34 i = draw (Cipher.bits (BitVec.ofNat 32 (ctr i))) - 1 := by
  obtain ⟨ec, ec0, e0, e1, e2, ec1, e3, e4, e5, e6, ecst, ecst2, uni, -⟩ := h
  have k := key_apply (V (Proc.devRef .tc main_v2)) (V (Proc.devRef .tc main_v5)) Gen.concatenates_S1_S1_S2_d0
  refine uniform V _ _ _ _ uni ((congrFun e6 _).trans (k.1.trans ?_)) ((congrFun e6 _).trans (k.2.trans ?_))
    (fun i => (congrFun ecst i).trans Ideal.ofBits_zero_f32) (fun i => (congrFun ecst2 i).trans one_eq) i
  · rw [e2, e1, e0, ec, ec0]; rfl
  · rw [e5, e4, e3, ec, ec1]; rfl

/-- Each entry of the result. -/
theorem result (c : Dev nD) (V : Valuation τ sig (Elt Ideal)) (h : (mainLine (F := Ideal) c).eqs V) (w : BitVec 32) (L : Fin 128 → ℕ → EReal)
    (Z : Fin 128 → ℕ → ℝ) (ht : ∀ i, wd V (.of main_arg1) i = w)
    (hx : ∀ (r : Fin 128) (n : Fin 100000), fl V (.of main_arg0) (ix2 r n) = L r n.val)
    (hL : ∀ l, ∀ n < 100000, Ideal.div (L l n + noise (100000 * l.val + n)) (temp w) = (Z l n : ℝ)) (r : Fin 128) (n : Fin 100000) :
    fl V (.of main_v30) (ix2 r n)
      = Ideal.div (Ideal.exp ((Z r n.val : ℝ) - top (Z r) 100000)) (tot (Z r) 100000 (top (Z r) 100000)) := by
  have q7 := draw_main c V h
  obtain ⟨-, -, -, -, -, -, -, -, -, -, -, -, -, e3, e8, e9, e10, e11, e4, e12, e13, e14, e15, e16, e17, e18,
    e19, e5, e20, e6, e21, e22, e23, e24, e25, e26, e7, e27, e28, e29, e30, -⟩ := h
  exact softmax_step e3 e8 e9 e10 e11 e4 e12 e13 e14 e15 e16 e17 e18 e19 e5 e20 e6 e21 e22 e23 e24 e25 e26 e7 e27 e28 e29 e30 q7 w ht
    L Z hx hL r n

end Cert.Ref

end
-- ==== Proof.Algebraic.lean ====
/-
  The kernel's result is the reference's over the extended reals: from the same logits and temperature, where the logits
  are real and the temperature is not zero, both programs end with the same array.
-/
module

public import proofs.«01_k».proof.Defs
public import proofs.«01_k».proof.Proof.Gen.Pre_logits_finite
public import proofs.«01_k».proof.Proof.KernelIdeal.Launch
public import proofs.«01_k».proof.Proof.Value.KernelRead
public import proofs.«01_k».proof.Proof.Value.Given
public import proofs.«01_k».proof.Proof.Ref.Run
public import proofs.«01_k».proof.Proof.Ref.Val

@[expose] public section

set_option maxRecDepth 16384

noncomputable section

namespace Cert.Proof

open Idealize.ShloMosaic Idealize.SL.Sem Idealize.ShloMosaic.ValueIdx Cert.Draw

/-- The kernel's result from a memory. -/
def kernelEnd (m : (ℓ : Loc Cert.KernelIdeal.nD Cert.KernelIdeal.τ Cert.KernelIdeal.sig) → Buf (Elt Ideal) ℓ) (c : Dev Cert.KernelIdeal.nD) :
    FVec Ideal Cert.KernelIdeal.S128x100000 .f32 :=
  transpose Cert.KernelIdeal.S128x100000 [1, 0] (Cert.KernelIdeal.Hand.Gv m c) Cert.KernelIdeal.Gen.transposes_S100000x128_S128x100000_1_0

/-- The reference's result from the same arguments is the kernel's. -/
theorem ends_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hreal : ∀ i, ∃ r : ℝ, Cert.KernelIdeal.Hand.arg0 m c i = r) (ht : Cert.KernelIdeal.Hand.arg1 m c ix0 ≠ 0#32)
    (h0 : m' ((c.tc : Thread Cert.ReferenceIdeal.nD Cert.ReferenceIdeal.τ).loc Cert.ReferenceIdeal.main_arg0) = Cert.KernelIdeal.Hand.arg0 m c)
    (h1 : m' ((c.tc : Thread Cert.ReferenceIdeal.nD Cert.ReferenceIdeal.τ).loc Cert.ReferenceIdeal.main_arg1) = Cert.KernelIdeal.Hand.arg1 m c) :
    Cert.Ref.fin (F := Ideal) m' c (Proc.devRef .tc Cert.ReferenceIdeal.main_v30) = kernelEnd m c := by
  have hcol : ∀ l, ∀ n < 100000, ∃ r : ℝ, Cert.KernelIdeal.Hand.col m c l n = r := fun l n hn => by
    unfold Cert.KernelIdeal.Hand.col
    rw [dif_pos hn]
    exact hreal _
  obtain ⟨Z, hZ⟩ := scaled (Cert.KernelIdeal.Hand.col m c) hcol ht
  have a0 := (Cert.Ref.fin_arg0 (F := Ideal) m' c).trans h0
  have a1 := (Cert.Ref.fin_arg1 (F := Ideal) m' c).trans h1
  refine funext fun i => ?_
  obtain ⟨r, n, rfl⟩ : ∃ (r : Fin 128) (n : Fin 100000), i = ix2 r n := ⟨i 0, i 1, eq_ix2 i⟩
  refine (Cert.Ref.result c (Cert.Ref.fin m' c) (Cert.Ref.fin_eqs m' c) (Cert.KernelIdeal.Hand.arg1 m c ix0) (Cert.KernelIdeal.Hand.col m c) Z
    (fun j => ?_) (fun r n => ?_) hZ r n).trans (Cert.KernelIdeal.Hand.result m c ix0 ht Z hZ r n).symm
  · refine (congrFun a1 j).trans (congrArg _ (funext fun a => a.elim0))
  · refine (congrFun a0 (ix2 r n)).trans ?_
    unfold Cert.KernelIdeal.Hand.col
    rw [dif_pos n.isLt]

/-- Both programs end, with the same result, from every memory that meets the precondition. -/
theorem algebraic : @Cert.algebraic_KernelIdeal_ReferenceIdeal_pre_logits_finite Cert.KernelIdeal.Gen.facts Cert.ReferenceIdeal.Gen.facts
    Cert.Pre_logits_finite.Gen.facts := fun m g m' g' hpre hargs => by
  refine ⟨fun c => kernelEnd m c, ?_, ?_⟩
  · exact (θ_run Cert.KernelIdeal.defs _ _).mono (fun r h c => ⟨(h.1 c).2, (h.1 c).1⟩) (Cert.KernelIdeal.Hand.run (F := Ideal) m g)
  · refine (θ_run Cert.ReferenceIdeal.defs _ _).mono (fun r h c => ⟨(h c).1.trans ?_, (h c).2⟩) (Cert.Ref.run (F := Ideal) m' g')
    obtain ⟨hreal, ht⟩ := @Cert.Given.given Cert.Pre_logits_finite.Gen.facts _ _ _ (hpre c)
    exact ends_eq m m' c hreal ht (hargs c).1 (hargs c).2.1

end Cert.Proof

end
-- ==== Proof.lean ====
module

public import proofs.«01_k».proof.Defs
public import proofs.«01_k».proof.Proof.KernelFrame
public import proofs.«01_k».proof.Proof.Gen.Pre_logits_finite
public import proofs.«01_k».proof.Proof.Ref.Run
public import proofs.«01_k».proof.Proof.Algebraic
public import Idealize.ShloMosaic.Adequacy
public import Idealize.ShloMosaic.Init

@[expose] public section

noncomputable section

namespace Cert.Proof

open Idealize.ShloMosaic Idealize.SL.Sem

/-- From any memory with the counters at zero the reference ends, nothing faults, the three arguments hold what they
    held and every counter is at zero (it declares none). -/
theorem reference_frame : @Cert.quiescent_ReferenceIdeal Cert.ReferenceIdeal.Gen.facts := fun m g _ =>
  (θ_run Cert.ReferenceIdeal.defs _ _).mono (fun r h => ⟨fun c => (h c).2,
      Idealize.ShloMosaic.sem_eq_zero_of_no_sems (by decide) r.2⟩)
    (Cert.Ref.run (F := Ideal) m g)

/-- The whole claim. -/
theorem claim : Cert.Claim :=
  ⟨Cert.Kernel.Gen.facts, Cert.KernelIdeal.Gen.facts, Cert.ReferenceIdeal.Gen.facts, Cert.Pre_logits_finite.Gen.facts,
    kernel_frame, kernelIdeal_frame, fun m g _ => kernelIdeal_frame m g trivial, reference_frame,
    fun m g _ => reference_frame m g trivial, trivial, algebraic⟩

end Cert.Proof

end
